-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![1024]⟩ (Layout.meshBlock [2, 2, 2] ![[1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2, 2] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![512, 512]⟩ ⟨2, ![1024, 512]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v53) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S512x1 : Shape := ⟨2, ![512, 1]⟩
abbrev S256x512 : Shape := ⟨2, ![256, 512]⟩
abbrev S256x1 : Shape := ⟨2, ![256, 1]⟩
abbrev S4 : Shape := ⟨1, ![4]⟩
abbrev S_ : Shape := ⟨0, ![]⟩
abbrev S64x512 : Shape := ⟨2, ![64, 512]⟩
abbrev S1 : Shape := ⟨1, ![1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S256x1024 : Shape := ⟨2, ![256, 1024]⟩
abbrev S64x1 : Shape := ⟨2, ![64, 1]⟩
abbrev S64x1024 : Shape := ⟨2, ![64, 1024]⟩

abbrev nBuf : Space → Nat
  | .hbm => 6
  | .vmem => 14
  | .smem => 0
  | _ => 0

abbrev bufTy : (tb : Table) → Fin (tcTables nBuf tb) → BufTy
  | .hbm, ⟨0, _⟩ => ⟨S512x512, .bf16⟩
  | .hbm, ⟨1, _⟩ => ⟨S512, .i32⟩
  | .hbm, ⟨2, _⟩ => ⟨S2x512x1024, .bf16⟩
  | .hbm, ⟨3, _⟩ => ⟨S2x1024x512, .bf16⟩
  | .hbm, ⟨4, _⟩ => ⟨S512x1, .i32⟩
  | .hbm, ⟨5, _⟩ => ⟨S512x512, .bf16⟩
  | .local _ .vmem, ⟨0, _⟩ => ⟨S512x512, .bf16⟩
  | .local _ .vmem, ⟨1, _⟩ => ⟨S512x1, .i32⟩
  | .local _ .vmem, ⟨2, _⟩ => ⟨S2x512x1024, .bf16⟩
  | .local _ .vmem, ⟨3, _⟩ => ⟨S2x1024x512, .bf16⟩
  | .local _ .vmem, ⟨4, _⟩ => ⟨S512x512, .bf16⟩
  | .local _ .vmem, ⟨5, _⟩ => ⟨S256x512, .bf16⟩
  | .local _ .vmem, ⟨6, _⟩ => ⟨S256x512, .bf16⟩
  | .local _ .vmem, ⟨7, _⟩ => ⟨S256x1, .i32⟩
  | .local _ .vmem, ⟨8, _⟩ => ⟨S256x1, .i32⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32 v12
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_7 : BitVec 32 := 2#32
  let v14 : BitVec 32 := Scalar.muli v9 c2_i32_7
  let v15 : BitVec 32 := Scalar.addi v13 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v16 : BitVec 32 := Scalar.muli v8 c1_i32_8
  let v17 : BitVec 32 := Scalar.addi v15 v16
  v17.toNat
def k0_dev2 (d0 : Dev nD) : Nat :=
  let c0_i32_11 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_10 : BitVec 32 := 4#32
  let v18 : BitVec 32 := Scalar.muli v10 c4_i32_10
  let v19 : BitVec 32 := Scalar.addi c0_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v22 : BitVec 32 := Scalar.muli v8 c1_i32_13
  let v23 : BitVec 32 := Scalar.addi v21 v22
  v23.toNat
def k0_off1 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v25 : Index := Scalar.indexCast v24
  let c0 : Index := 0#32
  ![v25.toNat, 0]
def k0_dev3 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v31 : BitVec 32 := Scalar.muli v2 c4_i32_17
  let v32 : BitVec 32 := Scalar.addi c0_i32_18 v31
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_19 : BitVec 32 := 2#32
  let v33 : BitVec 32 := Scalar.muli v9 c2_i32_19
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v35 : BitVec 32 := Scalar.muli v8 c1_i32_20
  let v36 : BitVec 32 := Scalar.addi v34 v35
  v36.toNat
def k0_off2 (d0 : Dev nD) (c0_i32_22 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32_21 : BitVec 32 := 256#32
  let v37 : BitVec 32 := Scalar.muli v2 c256_i32_21
  let v38 : BitVec 32 := Scalar.addi v37 c0_i32_22
  let v39 : Index := Scalar.indexCast v38
  let c0_23 : Index := 0#32
  ![v39.toNat, 0]
def k0_dev4 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v45 : BitVec 32 := Scalar.muli v2 c4_i32_28
  let v46 : BitVec 32 := Scalar.addi c0_i32_29 v45
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_30 : BitVec 32 := 2#32
  let v47 : BitVec 32 := Scalar.muli v9 c2_i32_30
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v49 : BitVec 32 := Scalar.muli v8 c1_i32_31
  let v50 : BitVec 32 := Scalar.addi v48 v49
  v50.toNat
def k0_dev5 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v65 : BitVec 32 := Scalar.muli v2 c4_i32_41
  let v66 : BitVec 32 := Scalar.addi c0_i32_42 v65
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_43 : BitVec 32 := 2#32
  let v67 : BitVec 32 := Scalar.muli v9 c2_i32_43
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v69 : BitVec 32 := Scalar.muli v8 c1_i32_44
  let v70 : BitVec 32 := Scalar.addi v68 v69
  v70.toNat
def k0_dev6 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v85 : BitVec 32 := Scalar.muli v2 c4_i32_54
  let v86 : BitVec 32 := Scalar.addi c0_i32_55 v85
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_56 : BitVec 32 := 2#32
  let v87 : BitVec 32 := Scalar.muli v9 c2_i32_56
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v89 : BitVec 32 := Scalar.muli v8 c1_i32_57
  let v90 : BitVec 32 := Scalar.addi v88 v89
  v90.toNat
def k0_dev7 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v105 : BitVec 32 := Scalar.muli v2 c4_i32_66
  let v106 : BitVec 32 := Scalar.addi c0_i32_67 v105
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_68 : BitVec 32 := 2#32
  let v107 : BitVec 32 := Scalar.muli v9 c2_i32_68
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_69 : BitVec 32 := 1#32
  let v109 : BitVec 32 := Scalar.muli v8 c1_i32_69
  let v110 : BitVec 32 := Scalar.addi v108 v109
  v110.toNat
def k0_dev8 (d0 : Dev nD) : Nat :=
  let c0_i32_103 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_102 : BitVec 32 := 4#32
  let v158 : BitVec 32 := Scalar.muli v10 c4_i32_102
  let v159 : BitVec 32 := Scalar.addi c0_i32_103 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v160 : BitVec 32 := Scalar.muli v5 c2_i32_104
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v162 : BitVec 32 := Scalar.muli v8 c1_i32_105
  let v163 : BitVec 32 := Scalar.addi v161 v162
  v163.toNat
def k0_dev9 (d0 : Dev nD) : Nat :=
  let c0_i32_141 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_140 : BitVec 32 := 4#32
  let v213 : BitVec 32 := Scalar.muli v2 c4_i32_140
  let v214 : BitVec 32 := Scalar.addi c0_i32_141 v213
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_142 : BitVec 32 := 2#32
  let v215 : BitVec 32 := Scalar.muli v9 c2_i32_142
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_143 : BitVec 32 := 1#32
  let v217 : BitVec 32 := Scalar.muli v8 c1_i32_143
  let v218 : BitVec 32 := Scalar.addi v216 v217
  v218.toNat
def k0_dev10 (d0 : Dev nD) : Nat :=
  let c0_i32_179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_178 : BitVec 32 := 4#32
  let v268 : BitVec 32 := Scalar.muli v2 c4_i32_178
  let v269 : BitVec 32 := Scalar.addi c0_i32_179 v268
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_180 : BitVec 32 := 2#32
  let v270 : BitVec 32 := Scalar.muli v9 c2_i32_180
  let v271 : BitVec 32 := Scalar.addi v269 v270
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_181 : BitVec 32 := 1#32
  let v272 : BitVec 32 := Scalar.muli v8 c1_i32_181
  let v273 : BitVec 32 := Scalar.addi v271 v272
  v273.toNat
def k0_dev11 (d0 : Dev nD) : Nat :=
  let c0_i32_217 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_216 : BitVec 32 := 4#32
  let v323 : BitVec 32 := Scalar.muli v2 c4_i32_216
  let v324 : BitVec 32 := Scalar.addi c0_i32_217 v323
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_218 : BitVec 32 := 2#32
  let v325 : BitVec 32 := Scalar.muli v9 c2_i32_218
  let v326 : BitVec 32 := Scalar.addi v324 v325
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v327 : BitVec 32 := Scalar.muli v8 c1_i32_219
  let v328 : BitVec 32 := Scalar.addi v326 v327
  v328.toNat
def k0_dev12 (d0 : Dev nD) : Nat :=
  let c0_i32_255 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_254 : BitVec 32 := 4#32
  let v378 : BitVec 32 := Scalar.muli v2 c4_i32_254
  let v379 : BitVec 32 := Scalar.addi c0_i32_255 v378
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_256 : BitVec 32 := 2#32
  let v380 : BitVec 32 := Scalar.muli v9 c2_i32_256
  let v381 : BitVec 32 := Scalar.addi v379 v380
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_257 : BitVec 32 := 1#32
  let v382 : BitVec 32 := Scalar.muli v8 c1_i32_257
  let v383 : BitVec 32 := Scalar.addi v381 v382
  v383.toNat
def k0_dev13 (d0 : Dev nD) : Nat :=
  let c0_i32_275 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_274 : BitVec 32 := 4#32
  let v400 : BitVec 32 := Scalar.muli v10 c4_i32_274
  let v401 : BitVec 32 := Scalar.addi c0_i32_275 v400
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_276 : BitVec 32 := 2#32
  let v402 : BitVec 32 := Scalar.muli v5 c2_i32_276
  let v403 : BitVec 32 := Scalar.addi v401 v402
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_277 : BitVec 32 := 1#32
  let v404 : BitVec 32 := Scalar.muli v8 c1_i32_277
  let v405 : BitVec 32 := Scalar.addi v403 v404
  v405.toNat
def k0_dev14 (d0 : Dev nD) : Nat :=
  let c0_i32_302 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_301 : BitVec 32 := 4#32
  let v432 : BitVec 32 := Scalar.muli v10 c4_i32_301
  let v433 : BitVec 32 := Scalar.addi c0_i32_302 v432
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_303 : BitVec 32 := 2#32
  let v434 : BitVec 32 := Scalar.muli v5 c2_i32_303
  let v435 : BitVec 32 := Scalar.addi v433 v434
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_304 : BitVec 32 := 1#32
  let v436 : BitVec 32 := Scalar.muli v8 c1_i32_304
  let v437 : BitVec 32 := Scalar.addi v435 v436
  v437.toNat
def k0_dev15 (d0 : Dev nD) : Nat :=
  let c0_i32_329 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_328 : BitVec 32 := 4#32
  let v464 : BitVec 32 := Scalar.muli v10 c4_i32_328
  let v465 : BitVec 32 := Scalar.addi c0_i32_329 v464
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_330 : BitVec 32 := 2#32
  let v466 : BitVec 32 := Scalar.muli v5 c2_i32_330
  let v467 : BitVec 32 := Scalar.addi v465 v466
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_331 : BitVec 32 := 1#32
  let v468 : BitVec 32 := Scalar.muli v8 c1_i32_331
  let v469 : BitVec 32 := Scalar.addi v467 v468
  v469.toNat
def k0_dev16 (d0 : Dev nD) : Nat :=
  let c0_i32_356 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_355 : BitVec 32 := 4#32
  let v496 : BitVec 32 := Scalar.muli v10 c4_i32_355
  let v497 : BitVec 32 := Scalar.addi c0_i32_356 v496
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_357 : BitVec 32 := 2#32
  let v498 : BitVec 32 := Scalar.muli v5 c2_i32_357
  let v499 : BitVec 32 := Scalar.addi v497 v498
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_358 : BitVec 32 := 1#32
  let v500 : BitVec 32 := Scalar.muli v8 c1_i32_358
  let v501 : BitVec 32 := Scalar.addi v499 v500
  v501.toNat
def k0_off3 (d0 : Dev nD) (c0_i32_390 : BitVec 32) : Fin 2 → Nat :=
  let c1_i32_388 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v540 : BitVec 32 := Scalar.subi c1_i32_388 v2
  let c256_i32_389 : BitVec 32 := 256#32
  let v541 : BitVec 32 := Scalar.muli v540 c256_i32_389
  let v542 : BitVec 32 := Scalar.addi v541 c0_i32_390
  let v543 : Index := Scalar.indexCast v542
  let c0_391 : Index := 0#32
  ![v543.toNat, 0]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S1024 : Shape := ⟨1, ![1024]⟩
abbrev S4x512x1024 : Shape := ⟨3, ![4, 512, 1024]⟩
abbrev S4x1024x512 : Shape := ⟨3, ![4, 1024, 512]⟩
abbrev S_ : Shape := ⟨0, ![]⟩
abbrev S1x512x1024 : Shape := ⟨3, ![1, 512, 1024]⟩
abbrev S512x1024 : Shape := ⟨2, ![512, 1024]⟩
abbrev S1024x1024 : Shape := ⟨2, ![1024, 1024]⟩
abbrev S1x1024x512 : Shape := ⟨3, ![1, 1024, 512]⟩
abbrev S1024x1 : Shape := ⟨2, ![1024, 1]⟩

abbrev nBuf : Space → Nat
  | .hbm => 71
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024, .i32⟩
  | .hbm, ⟨2, _⟩ => ⟨S4x512x1024, .bf16⟩
  | .hbm, ⟨3, _⟩ => ⟨S4x1024x512, .bf16⟩
  | .hbm, ⟨4, _⟩ => ⟨S_, .f32⟩
  | .hbm, ⟨5, _⟩ => ⟨S1024x512, .f32⟩
  | .hbm, ⟨6, _⟩ => ⟨S1x512x1024, .bf16⟩
  | .hbm, ⟨7, _⟩ => ⟨S512x1024, .bf16⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1x1024x512, .bf16⟩
  | .hbm, ⟨13, _⟩ => ⟨S1024x512, .bf16⟩
  | .hbm, ⟨14, _⟩ => ⟨S1024x512, .f32⟩
  | .hbm, ⟨15, _⟩ => ⟨S1024x512, .f32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024x1, .i1⟩
  | .hbm, ⟨20, _⟩ => ⟨S1024x512, .i1⟩
  | .hbm, ⟨21, _⟩ => ⟨S1024x512, .f32⟩
  | .hbm, ⟨22, _⟩ => ⟨S1x512x1024, .bf16⟩
  | .hbm, ⟨23, _⟩ => ⟨S512x1024, .bf16⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1x1024x512, .bf16⟩
  | .hbm, ⟨29, _⟩ => ⟨S1024x512, .bf16⟩
  | .hbm, ⟨30, _⟩ => ⟨S1024x512, .f32⟩
  | .hbm, ⟨31, _⟩ => ⟨S1024x512, .f32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S1024x1, .i1⟩
  | .hbm, ⟨36, _⟩ => ⟨S1024x512, .i1⟩
  | .hbm, ⟨37, _⟩ => ⟨S1024x512, .f32⟩
  | .hbm, ⟨38, _⟩ => ⟨S1x512x1024, .bf16⟩
  | .hbm, ⟨39, _⟩ => ⟨S512x1024, .bf16⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S1x1024x512, .bf16⟩
  | .hbm, ⟨45, _⟩ => ⟨S1024x512, .bf16⟩
  | .hbm, ⟨46, _⟩ => ⟨S1024x512, .f32⟩
  | .hbm, ⟨47, _⟩ => ⟨S1024x512, .f32⟩
  | .hbm, ⟨48, _⟩ => ⟨S_, .i32⟩
  | .hbm, ⟨49, _⟩ => ⟨S1024, .i32⟩
  | .hbm, ⟨50, _⟩ => ⟨S1024, .i1⟩
  | .hbm, ⟨51, _⟩ => ⟨S1024x1, .i1⟩
  | .hbm, ⟨52, _⟩ => ⟨S1024x512, .i1⟩
  | .hbm, ⟨53, _⟩ => ⟨S1024x512, .f32⟩
  | .hbm, ⟨54, _⟩ => ⟨S1x512x1024, .bf16⟩
  | .hbm, ⟨55, _⟩ => ⟨S512x1024, .bf16⟩
  | .hbm, ⟨56, _⟩ => ⟨S1024x1024, .f32⟩
  | .hbm, ⟨57, _⟩ => ⟨S_, .f32⟩
  | .hbm, ⟨58, _⟩ => ⟨S1024x1024, .f32⟩
  | .hbm, ⟨59, _⟩ => ⟨S1024x1024, .f32⟩
  | .hbm, ⟨60, _⟩ => ⟨S1x1024x512, .bf16⟩
  | .hbm, ⟨61, _⟩ => ⟨S1024x512, .bf16⟩
  | .hbm, ⟨62, _⟩ => ⟨S1024x512, .f32⟩
  | .hbm, ⟨63, _⟩ => ⟨S1024x512, .f32⟩
  | .hbm, ⟨64, _⟩ => ⟨S_, .i32⟩
  | .hbm, ⟨65, _⟩ => ⟨S1024, .i32⟩
  | .hbm, ⟨66, _⟩ => ⟨S1024, .i1⟩
  | .hbm, ⟨67, _⟩ => ⟨S1024x1, .i1⟩
  | .hbm, ⟨68, _⟩ => ⟨S1024x512, .i1⟩
  | .hbm, ⟨69, _⟩ => ⟨S1024x512, .f32⟩
  | .hbm, ⟨70, _⟩ => ⟨S1024x512, .bf16⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call2_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call3_v0 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Proof.Common.lean ====
/-
  The protocol of the mixture-of-experts kernel: who talks to whom, over which semaphores, with
  which contents.

  Fourteen copies leave every device.  `a` and the four `x k` carry this device's half of the
  assignment and of the rows to the device with the other experts (`yp`); the four `p k` carry the
  partial sums back to it; `o` and the four `q k` carry the two partial results to the device that
  holds the other half of the rows (`xn`).  Each copy has its own pair of cells, each with one
  round of one payment; a barrier with two payments hands over the buffers the copies land in.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Rounds
public import Idealize.ShloMosaic.Lib.Memref
public import Idealize.ShloMosaic.Lib.MemrefSat
public import Idealize.ShloMosaic.Lib.Tactic
public import Idealize.ShloMosaic.Lib.Pipeline.RegionTalk

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Partners -/

/-- The device with the other pair of experts, for the same rows. -/
def yp (c : Dev nD) : Dev nD := ⟨(4 * (c.val / 4) + (c.val % 2) + 2) - 2 * ((c.val / 2) % 2), by
  have := c.isLt; simp only [nD] at this ⊢; omega⟩
/-- The device with the other half of the rows, for the same experts. -/
def xn (c : Dev nD) : Dev nD := ⟨(2 * ((c.val / 2) % 2) + (c.val % 2) + 4) - 4 * (c.val / 4), by
  have := c.isLt; simp only [nD] at this ⊢; omega⟩
theorem yp_yp : ∀ c : Dev nD, yp (yp c) = c := by decide
theorem xn_xn : ∀ c : Dev nD, xn (xn c) = c := by decide
theorem yp_ne : ∀ c : Dev nD, yp c ≠ c := by decide

/-! ## The fourteen copies -/

/-- The copies one device sends. -/
inductive Fl
  | a
  | x (k : Fin 4)
  | o
  | p (k : Fin 4)
  | q (k : Fin 4)
  deriving DecidableEq

/-- All of them, in the order in which they are sent. -/
def Fl.all : List Fl :=
  [.a, .x 0, .x 1, .x 2, .x 3, .o, .p 0, .p 1, .p 2, .p 3, .q 0, .q 1, .q 2, .q 3]

theorem Fl.mem_all : ∀ f : Fl, f ∈ Fl.all := by
  intro f
  cases f with
  | a => decide
  | o => decide
  | x k => revert k; decide
  | p k => revert k; decide
  | q k => revert k; decide

instance : Fintype Fl := ⟨⟨Fl.all, by decide⟩, Fl.mem_all⟩

/-- Where a copy goes. -/
def dest (f : Fl) (c : Dev nD) : Dev nD :=
  match f with
  | .a => yp c
  | .x _ => yp c
  | .p _ => yp c
  | .o => xn c
  | .q _ => xn c
theorem dest_dest (f : Fl) (c : Dev nD) : dest f (dest f c) = c := by
  cases f <;> first | exact yp_yp c | exact xn_xn c

/-- The semaphore a copy raises at its source. -/
def sS : Fl → DmaSem sig
  | .a => ⟨13, by decide⟩
  | .x k => ⟨5 + k.val, by have := k.isLt; show _ < 33; omega⟩
  | .o => ⟨15, by decide⟩
  | .p k => ⟨17 + k.val, by have := k.isLt; show _ < 33; omega⟩
  | .q k => ⟨25 + k.val, by have := k.isLt; show _ < 33; omega⟩
/-- The semaphore it raises where it lands. -/
def rS : Fl → DmaSem sig
  | .a => ⟨14, by decide⟩
  | .x k => ⟨9 + k.val, by have := k.isLt; show _ < 33; omega⟩
  | .o => ⟨16, by decide⟩
  | .p k => ⟨21 + k.val, by have := k.isLt; show _ < 33; omega⟩
  | .q k => ⟨29 + k.val, by have := k.isLt; show _ < 33; omega⟩
/-- The barrier's semaphore. -/
def barS : Sem sig := sig.barrier 0 rfl

/-- What a semaphore is for. -/
inductive Use
  | bar
  | snd (f : Fl)
  | rcv (f : Fl)
  | no
  deriving DecidableEq

/-- The use of a semaphore. -/
def use : SemLoc sig → Use
  | .reg s => if s = barS then .bar else .no
  | .dma s =>
    match Fl.all.find? (fun f => decide (sS f = s)) with
    | some f => .snd f
    | none =>
      match Fl.all.find? (fun f => decide (rS f = s)) with
      | some f => .rcv f
      | none => .no

theorem use_bar : use (.reg barS) = .bar := by decide
theorem use_snd : ∀ f : Fl, use (.dma (sS f)) = .snd f := by decide
theorem use_rcv : ∀ f : Fl, use (.dma (rS f)) = .rcv f := by decide

abbrev barC (c : Dev nD) : GSem nD τ sig := ((c : Thread nD τ), .reg barS)
abbrev sndC (f : Fl) (c : Dev nD) : GSem nD τ sig := ((c : Thread nD τ), .dma (sS f))
abbrev rcvC (f : Fl) (c : Dev nD) : GSem nD τ sig := ((c : Thread nD τ), .dma (rS f))

/-! ## Buffers and their chunks -/

abbrev xsM : Memref sig .tc .vmem S256x512 .bf16 := Memref.whole cc0_scratch0
abbrev xrM : Memref sig .tc .vmem S256x512 .bf16 := Memref.whole cc0_scratch1
abbrev asM : Memref sig .tc .vmem S256x1 .i32 := Memref.whole cc0_scratch2
abbrev arM : Memref sig .tc .vmem S256x1 .i32 := Memref.whole cc0_scratch3
abbrev ownM : Memref sig .tc .vmem S256x512 .bf16 := Memref.whole cc0_scratch4
abbrev ownrM : Memref sig .tc .vmem S256x512 .bf16 := Memref.whole cc0_scratch5
abbrev psM : Memref sig .tc .vmem S256x512 .bf16 := Memref.whole cc0_scratch6
abbrev presM : Memref sig .tc .vmem S256x512 .bf16 := Memref.whole cc0_scratch7
abbrev presfM : Memref sig .tc .vmem S256x512 .bf16 := Memref.whole cc0_scratch8

theorem ch_inb : ∀ (k : Fin 4) (a : Fin 2), (![64 * k.val, 0] : Fin 2 → ℕ) a + S64x512.size a ≤ S256x512.size a := by decide
theorem ach_inb : ∀ (k : Fin 4) (a : Fin 2), (![64 * k.val, 0] : Fin 2 → ℕ) a + S64x1.size a ≤ S256x1.size a := by decide

/-- Rows `64 k` to `64 k + 64` of a buffer of 256 rows. -/
abbrev ch (k : Fin 4) : Rect S256x512 := Rect.unit (s := S256x512) ![64 * k.val, 0] S64x512.size (ch_inb k)
/-- The same rows of the assignment. -/
abbrev ach (k : Fin 4) : Rect S256x1 := Rect.unit (s := S256x1) ![64 * k.val, 0] S64x1.size (ach_inb k)
/-- A buffer's chunk. -/
abbrev chM (M : Memref sig .tc .vmem S256x512 .bf16) (k : Fin 4) : Memref sig .tc .vmem S64x512 .bf16 :=
  M.slice (ch k) (fun _ => rfl)

/-! ## Contents -/

/-- What the devices start from: each device's rows, assignment and two experts. -/
structure Inp (F : FTy → Type) where
  x : Dev nD → S512x512.Idx → Elt F .bf16
  a : Dev nD → S512x1.Idx → Elt F .i32
  w1 : Dev nD → S2x512x1024.Idx → Elt F .bf16
  w2 : Dev nD → S2x1024x512.Idx → Elt F .bf16

/-- Where chunk `k` of a device's own half of the rows lies in its block. -/
abbrev inR (c : Dev nD) (k : Fin 4) : Rect S512x512 :=
  Rect.unit (s := S512x512) (k0_off2 c (BitVec.ofNat 32 (64 * k.val))) S64x512.size (k0_off2_inb c k)
/-- Where chunk `k` of the other half lies. -/
abbrev outR (c : Dev nD) (k : Fin 4) : Rect S512x512 :=
  Rect.unit (s := S512x512) (k0_off3 c (BitVec.ofNat 32 (64 * k.val))) S64x512.size (k0_off3_inb c k)
/-- Where its half of the assignment lies. -/
abbrev inA (c : Dev nD) : Rect S512x1 := Rect.unit (s := S512x1) (k0_off1 c) S256x1.size (k0_off1_inb c)

theorem half_lt (c : Dev nD) (i : Fin 256) : 256 * (c.val / 4) + i.val < 512 := by
  have h := c.isLt; have := i.isLt; simp only [nD] at h; omega

variable (I : Inp F)

/-- A device's half of its rows. -/
def xsF (c : Dev nD) : S256x512.Idx → Elt F .bf16 := fun i =>
  I.x c (fun b => match b with
    | 0 => ⟨256 * (c.val / 4) + (i 0).val, half_lt c (i 0)⟩
    | 1 => ⟨(i 1).val, (i 1).isLt⟩)
/-- Chunk `k` of it. -/
def xsC (c : Dev nD) (k : Fin 4) : S64x512.Idx → Elt F .bf16 := fun i => xsF I c ((ch k).emb i)
/-- Its half of the assignment. -/
def asF (c : Dev nD) : S256x1.Idx → Elt F .i32 := k0_pay1 (F := F) fun i => I.a c ((inA c).emb i)
def asC (c : Dev nD) (k : Fin 4) : S64x1.Idx → Elt F .i32 := fun i => asF I c ((ach k).emb i)

/-- A device's position among the pairs of experts, as a word. -/
def yW (c : Dev nD) : BitVec 32 := Scalar.remsi (Scalar.divsi (Dev.word c) 2#32) 2#32

/-- The device's four weight matrices. -/
def w10 (c : Dev nD) : FVec F S512x1024 .bf16 := k0_pay7 fun i => I.w1 c
  ((Rect.unit (s := S2x512x1024) ![0, 0, 0] S1x512x1024.size inb_S2x512x1024_S1x512x1024_0_0_0).emb i)
def w11 (c : Dev nD) : FVec F S512x1024 .bf16 := k0_pay8 fun i => I.w1 c
  ((Rect.unit (s := S2x512x1024) ![1, 0, 0] S1x512x1024.size inb_S2x512x1024_S1x512x1024_1_0_0).emb i)
def w20 (c : Dev nD) : FVec F S1024x512 .bf16 := k0_pay9 fun i => I.w2 c
  ((Rect.unit (s := S2x1024x512) ![0, 0, 0] S1x1024x512.size inb_S2x1024x512_S1x1024x512_0_0_0).emb i)
def w21 (c : Dev nD) : FVec F S1024x512 .bf16 := k0_pay10 fun i => I.w2 c
  ((Rect.unit (s := S2x1024x512) ![1, 0, 0] S1x1024x512.size inb_S2x1024x512_S1x1024x512_1_0_0).emb i)

/-- What device `c`'s experts make of its own half of the rows. -/
def ownF (c : Dev nD) : S256x512.Idx → Elt F .bf16 :=
  k0_pay11 (yW c) (w10 I c) (w11 I c) (w20 I c) (w21 I c) (xsF I c) (asF I c)
def ownC (c : Dev nD) (k : Fin 4) : S64x512.Idx → Elt F .bf16 := fun i => ownF I c ((ch k).emb i)

/-- What device `c`'s experts make of chunk `k` of its partner's half of the rows. -/
def psC (c : Dev nD) (k : Fin 4) : S64x512.Idx → Elt F .bf16 :=
  k0_pay13 (yW c) (w11 I c) (w21 I c) (xsC I (yp c) k) (asC I (yp c) k)
    (k0_pay12 (yW c) (w10 I c) (w20 I c) (xsC I (yp c) k) (asC I (yp c) k)) 2#32

/-- The sum of two partial results, chunk by chunk. -/
def addC (u v : S64x512.Idx → Elt F .bf16) : S64x512.Idx → Elt F .bf16 := k0_pay21 u v

/-- The two halves of a device's result. -/
def outN (c : Dev nD) (k : Fin 4) : S64x512.Idx → Elt F .bf16 := addC (ownC I c k) (psC I (yp c) k)
def outX (c : Dev nD) (k : Fin 4) : S64x512.Idx → Elt F .bf16 :=
  addC (ownC I (xn c) k) (psC I (yp (xn c)) k)

/-! ## The resources -/

/-- One copy of the rounds algebra for the pipeline, one for the copies between devices. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-- A buffer's contents through a memref, at a share. -/
abbrev has {sp : Space} {sh : Shape} {e : EltTy} (c : Dev nD) (M : Memref sig .tc sp sh e) (q : PosShare TreeShare)
    (X : sh.Idx → Elt F e) : sProp 𝕄 := owns (c : Thread nD τ) M q X
/-- A buffer through a memref, whole, at contents not chosen. -/
abbrev some {sp : Space} {sh : Shape} {e : EltTy} (c : Dev nD) (M : Memref sig .tc sp sh e) : sProp 𝕄 :=
  iprop(∃ X, has c M fullShare X)

abbrev hl : PosShare TreeShare := fullShare.left
abbrev hr : PosShare TreeShare := fullShare.right

/-- The units a copy raises its semaphores by. -/
def amt : Fl → ℕ
  | .a => (arM : Memref sig .tc .vmem S256x1 .i32).view.dmaCredit
  | .x k => (chM xrM k).view.dmaCredit
  | .o => (ownrM : Memref sig .tc .vmem S256x512 .bf16).view.dmaCredit
  | .p k => (chM presM k).view.dmaCredit
  | .q k => (chM presfM k).view.dmaCredit
theorem amt_pos (f : Fl) : 0 < amt f := by
  cases f <;> exact View.dmaCredit_pos _ (by decide)

/-- What comes back to the source once a copy has left. -/
def sentPay (f : Fl) (c : Dev nD) : sProp 𝕄 :=
  match f with
  | .a => has c asM hl (asF I c)
  | .x k => has c (chM xsM k) hl (xsC I c k)
  | .o => has c ownM hl (ownF I c)
  | .p k => has c (chM psM k) fullShare (psC I c k)
  | .q k => has c (chM presM k) hl (psC I (yp c) k)

/-- What a device has once a copy has landed on it. -/
def recvPay (f : Fl) (c : Dev nD) : sProp 𝕄 :=
  match f with
  | .a => has c arM fullShare (asF I (yp c))
  | .x k => has c (chM xrM k) fullShare (xsC I (yp c) k)
  | .o => has c ownrM fullShare (ownF I (xn c))
  | .p k => has c (chM presM k) fullShare (psC I (yp c) k)
  | .q k => has c (chM presfM k) fullShare (psC I (yp (xn c)) k)

/-- The place a copy lands in, on the device it lands on. -/
def place (f : Fl) (c : Dev nD) : sProp 𝕄 :=
  match f with
  | .a => some c arM
  | .x k => some c (chM xrM k)
  | .o => some c ownrM
  | .p k => some c (chM presM k)
  | .q k => some c (chM presfM k)

/-- The right to send copy `f` to device `c`: the place, and that its cell is open. -/
def land (f : Fl) (c : Dev nD) : sProp 𝕄 := iprop(place f c ∗ reached ER (rcvC f c) 0)

/-- The copies a device sends to `yp`, and those it sends to `xn`. -/
def yFl : List Fl := [.a, .x 0, .x 1, .x 2, .x 3, .p 0, .p 1, .p 2, .p 3]
def xFl : List Fl := [.o, .q 0, .q 1, .q 2, .q 3]
theorem dest_y (c : Dev nD) : ∀ f ∈ yFl, dest f c = yp c := by
  intro f hf; fin_cases hf <;> rfl
theorem dest_x (c : Dev nD) : ∀ f ∈ xFl, dest f c = xn c := by
  intro f hf; fin_cases hf <;> rfl

/-- The rights to send each copy of a list to device `c`. -/
def lands : List Fl → Dev nD → sProp 𝕄
  | [], _ => iprop(emp)
  | f :: l, c => iprop(land f c ∗ lands l c)

/-- What a barrier signal from `yp` (`false`) or from `xn` (`true`) brings. -/
def barPay (b : Bool) (c : Dev nD) : sProp 𝕄 :=
  if b then lands xFl (xn c) else lands yFl (yp c)

/-! ## The schedule -/

/-- One round on every cell: the barrier's has two payments, every other's one. -/
def rd : Rounds.Schedule (GSem nD τ sig) Bool 𝕄 where
  duties g r :=
    if r = 0 ∧ g.1.2 = .tc then
      match use g.2 with
      | .bar => {false, true}
      | .snd _ => {false}
      | .rcv _ => {false}
      | .no => ∅
    else ∅
  unitless _ := False
  amount g _ _ :=
    match use g.2 with
    | .bar => 1
    | .snd f => amt f
    | .rcv f => amt f
    | .no => 1
  payload g _ b :=
    match use g.2 with
    | .bar => barPay b g.1.1
    | .snd f => sentPay I f g.1.1
    | .rcv f => recvPay I f g.1.1
    | .no => iprop(emp)
  amount_pos g _ _ _ := by
    cases use g.2 <;> first | exact Nat.one_pos | exact amt_pos _

instance sentPay_storable (f : Fl) (c : Dev nD) : BI.Storable (upEmb : UEmb _ 𝕄) (sentPay I f c) := by
  unfold sentPay; cases f <;> infer_instance
instance recvPay_storable (f : Fl) (c : Dev nD) : BI.Storable (upEmb : UEmb _ 𝕄) (recvPay I f c) := by
  unfold recvPay; cases f <;> infer_instance
instance land_storable (f : Fl) (c : Dev nD) : BI.Storable (upEmb : UEmb _ 𝕄) (land (F := F) f c) := by
  unfold land place; cases f <;> infer_instance
instance lands_storable : (l : List Fl) → (c : Dev nD) → BI.Storable (upEmb : UEmb _ 𝕄) (lands (F := F) l c)
  | [], _ => by unfold lands; infer_instance
  | f :: l, c => by
    have := lands_storable l c
    unfold lands; infer_instance
instance rd_payload_storable (g : GSem nD τ sig) (r : ℕ) (b : Bool) :
    BI.Storable (upEmb : UEmb _ 𝕄) ((rd I).payload g r b) := by
  dsimp only [rd]
  cases use g.2 with
  | bar => dsimp only; unfold barPay; split <;> infer_instance
  | snd f => dsimp only; infer_instance
  | rcv f => dsimp only; infer_instance
  | no => dsimp only; infer_instance

section Sched

variable (c : Dev nD) (f : Fl)

theorem duties_bar : (rd I).duties (barC c) 0 = {false, true} := by
  dsimp only [rd]; rw [if_pos ⟨rfl, rfl⟩, use_bar]
theorem duties_snd : (rd I).duties (sndC f c) 0 = {false} := by
  dsimp only [rd]; rw [if_pos ⟨rfl, rfl⟩, use_snd]
theorem duties_rcv : (rd I).duties (rcvC f c) 0 = {false} := by
  dsimp only [rd]; rw [if_pos ⟨rfl, rfl⟩, use_rcv]
theorem duties_later (g : GSem nD τ sig) : ∀ r, 1 ≤ r → (rd I).duties g r = ∅ :=
  fun r hr => by dsimp only [rd]; rw [if_neg (fun h => by omega)]

theorem amount_bar (b : Bool) : (rd I).amount (barC c) 0 b = 1 := by dsimp only [rd]; rw [use_bar]
theorem amount_snd : (rd I).amount (sndC f c) 0 false = amt f := by dsimp only [rd]; rw [use_snd]
theorem amount_rcv : (rd I).amount (rcvC f c) 0 false = amt f := by dsimp only [rd]; rw [use_rcv]

theorem expect_bar : (rd I).expect (barC c) 0 = 2 := by
  unfold Schedule.expect Schedule.amountOf
  rw [duties_bar, Finset.sum_pair (by decide), amount_bar, amount_bar]
theorem expect_snd : (rd I).expect (sndC f c) 0 = amt f := by
  unfold Schedule.expect Schedule.amountOf; rw [duties_snd, Finset.sum_singleton, amount_snd]
theorem expect_rcv : (rd I).expect (rcvC f c) 0 = amt f := by
  unfold Schedule.expect Schedule.amountOf; rw [duties_rcv, Finset.sum_singleton, amount_rcv]

theorem payload_bar (b : Bool) : (rd I).payload (barC c) 0 b = barPay b c := by dsimp only [rd]; rw [use_bar]
theorem payload_snd : (rd I).payload (sndC f c) 0 false = sentPay I f c := by dsimp only [rd]; rw [use_snd]
theorem payload_rcv : (rd I).payload (rcvC f c) 0 false = recvPay I f c := by dsimp only [rd]; rw [use_rcv]

theorem rest_bar : bigSep ((rd I).duties (barC c) 0 \ ∅) (fun b => (rd I).payload (barC c) 0 b)
    = iprop(lands yFl (yp c) ∗ lands xFl (xn c)) := by
  rw [Finset.sdiff_empty, duties_bar, bigSep_insert (by decide), bigSep_singleton, payload_bar, payload_bar]
  rfl
theorem rest_snd : bigSep ((rd I).duties (sndC f c) 0 \ ∅) (fun b => (rd I).payload (sndC f c) 0 b) = sentPay I f c := by
  rw [Finset.sdiff_empty, duties_snd, bigSep_singleton, payload_snd]
theorem rest_rcv : bigSep ((rd I).duties (rcvC f c) 0 \ ∅) (fun b => (rd I).payload (rcvC f c) 0 b) = recvPay I f c := by
  rw [Finset.sdiff_empty, duties_rcv, bigSep_singleton, payload_rcv]

end Sched

/-! ## Debts and levels -/

/-- What a device owes for the copies of a list it has still to send. -/
def due (c : Dev nD) : List Fl → CellTallies nD τ sig Unit
  | [] => 0
  | f :: l => due c l + tallyAt (rcvC f (dest f c)) () (amt f)

/-- What it owes at launch: the signals to both partners too. -/
def due₀ (c : Dev nD) : CellTallies nD τ sig Unit :=
  due c Fl.all + tallyAt (barC (xn c)) () 1 + tallyAt (barC (yp c)) () 1

def L (g : GSem nD τ sig) : Finset Unit := if g.1.2 = .tc then {()} else ∅

/-- How late a cell is waited for. -/
def rank : Use → ℕ
  | .bar => 1
  | .rcv (.p _) => 3
  | .rcv (.q _) => 4
  | .rcv _ => 2
  | _ => 0
def lv (g : GSem nD τ sig) (_ : Unit) : ℕ := rank (use g.2)

theorem L_tc (c : Dev nD) (s : SemLoc sig) : L ((c : Thread nD τ), s) = {()} := if_pos rfl
theorem L_of_ne (g : GSem nD τ sig) (h : g.1.2 ≠ .tc) : L g = ∅ := if_neg h

theorem due_pos (c : Dev nD) (g : GSem nD τ sig) (u : Unit) :
    ∀ l : List Fl, 0 < due c l g u → ∃ f ∈ l, g = rcvC f (dest f c)
  | [], h => absurd h (Nat.lt_irrefl 0)
  | f :: l, h => by
    have h' : 0 < due c l g u + tallyAt (rcvC f (dest f c)) () (amt f) g u := h
    rcases Nat.eq_zero_or_pos (due c l g u) with h0 | h0
    · rw [h0, Nat.zero_add, tallyAt_apply] at h'
      by_cases hc : g = rcvC f (dest f c) ∧ u = ()
      · exact ⟨f, List.mem_cons_self, hc.1⟩
      · rw [if_neg hc] at h'; exact absurd h' (Nat.lt_irrefl 0)
    · obtain ⟨f', hf', e⟩ := due_pos c g u l h0
      exact ⟨f', List.mem_cons_of_mem _ hf', e⟩

/-- A device may wait for a cell while all it still owes is waited for later. -/
theorem mayWait (c : Dev nD) (s : SemLoc sig) (l : List Fl) (h : ∀ f ∈ l, rank (use s) < rank (.rcv f)) :
    (levAts L lv : sProp 𝕄) ⊢ MayWait (c : Thread nD τ) s () (due c l) :=
  MayOwe.of_cut (L := L) (lev := lv) (rank (use s))
    (fun p hp => by rw [Finset.mem_singleton.mp hp, L_tc]; exact Finset.mem_singleton_self _)
    (fun g u hg => by obtain ⟨f, -, rfl⟩ := due_pos c g u l hg; rw [L_tc]; exact Finset.mem_singleton_self _)
    (fun p hp => by rw [Finset.mem_singleton.mp hp]; exact le_rfl)
    (fun g u hg => by
      obtain ⟨f, hf, rfl⟩ := due_pos c g u l hg
      show rank (use s) < rank (use (.dma (rS f)))
      rw [use_rcv]; exact h f hf)

/-! ## Tokens -/

/-- The invariants of all cells of all devices, at the names the launch gave them. -/
def invs (κ : GSem nD τ sig → ℕ) : sProp 𝕄 :=
  iprop(bigSep (Finset.univ : Finset (Dev nD)) (fun c => cellInv ER (rd I) (κ (barC c)) (barC c))
    ∗ bigSep (Finset.univ : Finset (Fl × Dev nD)) (fun p => cellInv ER (rd I) (κ (sndC p.1 p.2)) (sndC p.1 p.2))
    ∗ bigSep (Finset.univ : Finset (Fl × Dev nD)) (fun p => cellInv ER (rd I) (κ (rcvC p.1 p.2)) (rcvC p.1 p.2)))
instance invs_persistent (κ : GSem nD τ sig → ℕ) : BI.Persistent (invs I κ) := by unfold invs; infer_instance

/-- One conjunct of a big conjunction. -/
theorem pick {J : Type} [DecidableEq J] {s : Finset J} {j : J} (h : j ∈ s) (Φ : J → sProp 𝕄) : (bigSep s Φ : sProp 𝕄) ⊢ Φ j :=
  bigSep_elim h

theorem invs_bar (κ : GSem nD τ sig → ℕ) (c : Dev nD) : invs I κ ⊢ cellInv ER (rd I) (κ (barC c)) (barC c) := by
  unfold invs; iintro ⟨H, -, -⟩
  iapply (pick (F := F) (Finset.mem_univ c) fun c => cellInv ER (rd I) (κ (barC c)) (barC c)) $$ H
theorem invs_snd (κ : GSem nD τ sig → ℕ) (f : Fl) (c : Dev nD) : invs I κ ⊢ cellInv ER (rd I) (κ (sndC f c)) (sndC f c) := by
  unfold invs; iintro ⟨-, H, -⟩
  iapply (pick (F := F) (Finset.mem_univ (f, c)) fun p : Fl × Dev nD => cellInv ER (rd I) (κ (sndC p.1 p.2)) (sndC p.1 p.2)) $$ H
theorem invs_rcv (κ : GSem nD τ sig → ℕ) (f : Fl) (c : Dev nD) : invs I κ ⊢ cellInv ER (rd I) (κ (rcvC f c)) (rcvC f c) := by
  unfold invs; iintro ⟨-, -, H⟩
  iapply (pick (F := F) (Finset.mem_univ (f, c)) fun p : Fl × Dev nD => cellInv ER (rd I) (κ (rcvC p.1 p.2)) (rcvC p.1 p.2)) $$ H

/-- What a device pays copy `f` with, and what it needs to wait for its own send. -/
def tokS (f : Fl) (c : Dev nD) : sProp 𝕄 :=
  iprop(dutyTok ER (sndC f c) 0 false ∗ dutyTok ER (rcvC f (dest f c)) 0 false ∗ reached ER (sndC f c) 0 ∗ atPos ER (sndC f c) 0 ∅ 0)
/-- A copy under way. -/
def sent (f : Fl) (c : Dev nD) : sProp 𝕄 := iprop(cred (tallyAt (sndC f c) () (amt f)) ∗ atPos ER (sndC f c) 0 ∅ 0)
/-- A copy expected. -/
def exps (f : Fl) (c : Dev nD) : sProp 𝕄 := iprop(cred (tallyAt (rcvC f c) () (amt f)) ∗ atPos ER (rcvC f c) 0 ∅ 0)
/-- A device's debts. -/
def owe (c : Dev nD) (l : List Fl) : sProp 𝕄 := iprop(∃ W, owes (c : Thread nD τ) (due c l) W)

theorem close (κ : ℕ) (g : GSem nD τ sig) :
    iprop(cellInv ER (rd I) κ g ∗ atPos ER g (0 + 1) ∅ 0) ⊢ (|={Set.univ}=> semVal g 0 : sProp 𝕄) :=
  Rounds.cell_close ER (rd I) (Set.mem_univ κ) id (duties_later I g)

end Cert.KernelIdeal.Moe

end
-- ==== Proof.Steps.lean ====
/-
  One rule for each kind of step the body takes: a load or a store of a chunk or of a whole buffer,
  the start of a copy, the end of a copy at either side, a barrier signal and the barrier's wait.
-/
module

public import proofs.«01_k».proof.Proof.Common

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- The weakest precondition of a piece of device `c`'s kernel. -/
abbrev wpc {α : Type} (c : Dev nD) (P : Prog (TpuEff nD τ sig (Elt F) Λ₀ .tc) α) (Q : α → sProp 𝕄) : sProp 𝕄 :=
  wp frame (wpE (defs₀ (F := F)) 𝒱₀ (c : Thread nD τ) none) Set.univ P Q

section Mem

variable {sh : Shape} {e : EltTy} {α : Type} (c : Dev nD) {M : Memref sig .tc .vmem sh e} {Q : α → sProp (MT nD τ sig Unit (Elt F) ℕ UU ℕ)}

/-- A load of a slice that is owned by itself. -/
theorem load_slice {r : Rect sh} {hu : ∀ a, r.stride a = 1} {S : Memref sig .tc .vmem r.shape e} (hs : S = M.slice r hu)
    {hl : M.view.LoadsAt r.toLoadRect} {k : (r.shape.Idx → Elt F e) → Prog (TpuEff nD τ sig (Elt F) Λ₀ .tc) α}
    {q : PosShare TreeShare} {X : r.shape.Idx → Elt F e} :
    has c S q X ⊢ iprop((has c S q X -∗ wpc c (k X) Q) -∗ wpc c (.op (.load M r.toLoadRect hl) k) Q) := by
  subst hs
  unfold has owns
  iintro ⟨%f, %hf, H⟩ Hk
  iapply (wp_load_rect (defs := defs₀ (F := F)) 𝒱₀ (c : Thread nD τ) none Set.univ (m := M) (r := r) (f := f)
    (S := (M.slice r hu).view.set) (q := q) (Finset.Subset.refl _)) $$ [H]
  · iexact H
  iintro H
  have hX : (M.access r).read (Elt F) f = X := hf
  rw [hX]
  iapply Hk
  iexists f
  isplitr
  · ipureintro; exact hf
  · iexact H

/-- A load of a part of an owned buffer. -/
theorem load_part {r : Rect sh} {hl : M.view.LoadsAt r.toLoadRect}
    {k : (r.shape.Idx → Elt F e) → Prog (TpuEff nD τ sig (Elt F) Λ₀ .tc) α}
    {q : PosShare TreeShare} {X : sh.Idx → Elt F e} :
    has c M q X ⊢ iprop((has c M q X -∗ wpc c (k fun i => X (r.emb i)) Q) -∗ wpc c (.op (.load M r.toLoadRect hl) k) Q) := by
  unfold has owns
  iintro ⟨%f, %hf, H⟩ Hk
  iapply (wp_load_rect (defs := defs₀ (F := F)) 𝒱₀ (c : Thread nD τ) none Set.univ (m := M) (r := r) (f := f)
    (S := M.view.set) (q := q) (M.view.set_slice_subset r)) $$ [H]
  · iexact H
  iintro H
  have hX : (M.access r).read (Elt F) f = fun i => X (r.emb i) := by subst hf; rfl
  rw [hX]
  iapply Hk
  iexists f
  isplitr
  · ipureintro; exact hf
  · iexact H

/-- A store to a slice that is owned by itself. -/
theorem store_slice {r : Rect sh} {hu : ∀ a, r.stride a = 1} {S : Memref sig .tc .vmem r.shape e} (hs : S = M.slice r hu)
    {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} {X : r.shape.Idx → Elt F e} :
    has c S fullShare X ⊢ iprop((has c S fullShare w -∗ wpc c (k ⟨⟩) Q)
      -∗ wpc c (.op (.store M r w Finset.univ hx hm) k) Q) := by
  subst hs
  unfold has owns
  iintro ⟨%f, -, H⟩ Hk
  iapply (wp_store (defs := defs₀ (F := F)) 𝒱₀ (c : Thread nD τ) none Set.univ (m := M) (r := r) (f := f) (w := w) (hx := hx) (hm := hm)
    (S := (M.slice r hu).view.set) (Mk := Finset.univ) (Finset.Subset.refl _)) $$ [H]
  · iexact H
  iintro H
  iapply Hk
  iexists ((M.access r).write (Elt F) f w Finset.univ)
  isplitr
  · ipureintro; exact View.read_write_univ _ _
  · iexact H

/-- The same, naming what is stored otherwise. -/
theorem store_slice_eq {r : Rect sh} {hu : ∀ a, r.stride a = 1} {S : Memref sig .tc .vmem r.shape e} (hs : S = M.slice r hu)
    {w w' : r.shape.Idx → Elt F e} (hw : w = w') {hx : (M.access r).Stores Finset.univ}
    {hm : (Finset.univ : Finset r.shape.Idx) = Finset.univ ∨ ∀ a, r.stride a = 1}
    {k : PUnit → Prog (TpuEff nD τ sig (Elt F) Λ₀ .tc) α} {X : r.shape.Idx → Elt F e} :
    has c S fullShare X ⊢ iprop((has c S fullShare w' -∗ wpc c (k ⟨⟩) Q)
      -∗ wpc c (.op (.store M r w Finset.univ hx hm) k) Q) := by
  subst hw; exact store_slice c hs

/-- A buffer is its own slice at the box of its size at the origin. -/
theorem box_emb {off : Fin sh.rank → ℕ} (hz : ∀ a, off a = 0) (hi : ∀ a, off a + sh.size a ≤ sh.size a) (i : sh.Idx) :
    (Rect.unit (s := sh) off sh.size hi).emb i = i := by
  funext a
  apply Fin.ext
  show off a + 1 * (i a).val = (i a).val
  rw [hz a]; omega

/-- A store over a whole buffer. -/
theorem store_whole {off : Fin sh.rank → ℕ} (hz : ∀ a, off a = 0) {hi : ∀ a, off a + sh.size a ≤ sh.size a}
    {w : sh.Idx → Elt F e} {hx : (M.access (Rect.unit (s := sh) off sh.size hi)).Stores Finset.univ}
    {hm : (Finset.univ : Finset (Rect.unit (s := sh) off sh.size hi).shape.Idx) = Finset.univ ∨ ∀ a, (Rect.unit (s := sh) off sh.size hi).stride a = 1}
    {k : PUnit → Prog (TpuEff nD τ sig (Elt F) Λ₀ .tc) α} {X : sh.Idx → Elt F e} :
    has c M fullShare X ⊢ iprop((has c M fullShare w -∗ wpc c (k ⟨⟩) Q)
      -∗ wpc c (.op (.store M (Rect.unit (s := sh) off sh.size hi) w Finset.univ hx hm) k) Q) := by
  iintro H Hk
  ihave H' := (owns_slice_split (c : Thread nD τ) M fullShare (Rect.unit (s := sh) off sh.size hi) (fun _ => rfl) X) $$ H
  icases H' with ⟨Hs, ⟨%f, -, Hr⟩⟩
  iapply (store_slice c (M := M) (r := Rect.unit (s := sh) off sh.size hi) (hu := fun _ => rfl) rfl (w := w) (hx := hx) (hm := hm)) $$ Hs
  iintro Hs
  iapply Hk
  ihave H := (owns_slice_join (c : Thread nD τ) M fullShare (Rect.unit (s := sh) off sh.size hi) (fun _ => rfl) w f) $$ [Hs Hr]
  · isplitl [Hs]; · iexact Hs
    iexact Hr
  rw [show (Rect.unit (s := sh) off sh.size hi).overlay (M.view.read (Elt F) f) w = w from by
    funext i
    have := Rect.overlay_emb (Rect.unit (s := sh) off sh.size hi) (M.view.read (Elt F) f) w i
    rwa [box_emb hz hi i] at this]
  iexact H

/-- The same, naming what is stored otherwise. -/
theorem store_whole_eq {off : Fin sh.rank → ℕ} (hz : ∀ a, off a = 0) {hi : ∀ a, off a + sh.size a ≤ sh.size a}
    {w w' : sh.Idx → Elt F e} (hw : w = w') {hx : (M.access (Rect.unit (s := sh) off sh.size hi)).Stores Finset.univ}
    {hm : (Finset.univ : Finset (Rect.unit (s := sh) off sh.size hi).shape.Idx) = Finset.univ ∨ ∀ a, (Rect.unit (s := sh) off sh.size hi).stride a = 1}
    {k : PUnit → Prog (TpuEff nD τ sig (Elt F) Λ₀ .tc) α} {X : sh.Idx → Elt F e} :
    has c M fullShare X ⊢ iprop((has c M fullShare w' -∗ wpc c (k ⟨⟩) Q)
      -∗ wpc c (.op (.store M (Rect.unit (s := sh) off sh.size hi) w Finset.univ hx hm) k) Q) := by
  subst hw; exact store_whole c hz

/-- A load of a whole buffer. -/
theorem load_whole {off : Fin sh.rank → ℕ} (hz : ∀ a, off a = 0) {hi : ∀ a, off a + sh.size a ≤ sh.size a}
    {hl : M.view.LoadsAt (Rect.unit (s := sh) off sh.size hi).toLoadRect}
    {k : (sh.Idx → Elt F e) → Prog (TpuEff nD τ sig (Elt F) Λ₀ .tc) α} {q : PosShare TreeShare} {X : sh.Idx → Elt F e} :
    has c M q X ⊢ iprop((has c M q X -∗ wpc c (k X) Q)
      -∗ wpc c (.op (.load M (Rect.unit (s := sh) off sh.size hi).toLoadRect hl) k) Q) := by
  have h := load_part (F := F) c (M := M) (r := Rect.unit (s := sh) off sh.size hi) (hl := hl) (k := k) (q := q) (X := X) (Q := Q)
  have hX : (fun i : sh.Idx => X ((Rect.unit (s := sh) off sh.size hi).emb i)) = X := funext fun i => by rw [box_emb hz hi i]
  rw [show (fun i : (Rect.unit (s := sh) off sh.size hi).shape.Idx => X ((Rect.unit (s := sh) off sh.size hi).emb i)) = X from hX] at h
  exact h

end Mem

section Comm

variable (I : Inp F) (κ : GSem nD τ sig → ℕ) (f : Fl) (c : Dev nD) {α : Type} {Q : α → sProp (MT nD τ sig Unit (Elt F) ℕ UU ℕ)}

/-- The start of copy `f`: the place it lands in and the source go into it. -/
theorem send {sh : Shape} {e : EltTy} {src dst : Memref sig .tc .vmem sh e} {dv : Dev nD} {s₁ s₂ : DmaSem sig}
    (q : PosShare TreeShare) (X : sh.Idx → Elt F e) (l : List Fl)
    (hd : dv = dest f c) (h₁ : s₁ = sS f) (h₂ : s₂ = rS f) (ha : dst.view.dmaCredit = amt f)
    (hp₁ : has c src q X ⊢ sentPay I f c) (hp₂ : has (dest f c) dst fullShare X ⊢ recvPay I f (dest f c))
    (hpl : place f (dest f c) ⊢ some (F := F) (dest f c) dst)
    {w₁ : src.view.WordExact} {w₂ : dst.view.WordExact} {hsc : dst.view.ref.isScScratch = false}
    {ht : DmaTarget.Typed .vmem (.dma s₂) (.remote (Dev.tc dv : Thread nD τ) dst (.dma s₁) hsc)}
    {k : PUnit → Prog (TpuEff nD τ sig (Elt F) Λ₀ .tc) α} :
    iprop(invs I κ ∗ owe c (f :: l) ∗ tokS f c ∗ has c src q X ∗ land f (dest f c))
      ⊢ iprop((iprop(owe c l ∗ sent f c) -∗ wpc c (k ⟨⟩) Q)
        -∗ wpc c (.op (.enqueueDma src (.remote (Dev.tc dv : Thread nD τ) dst (.dma s₁) hsc) (.dma s₂) w₁ w₂ ht) k) Q) := by
  subst hd h₁ h₂
  unfold tokS land owe sent has owns
  iintro ⟨#HI, ⟨%W, HO⟩, ⟨Ht₁, Ht₂, #Hr₁, Hat⟩, ⟨%g, %hg, Hs⟩, ⟨Hp, #Hr₂⟩⟩ Hk
  ihave Hp := hpl $$ Hp
  icases Hp with ⟨%Y, Hp⟩
  ihave Hp := (show has (dest f c) dst fullShare Y ⊢ iprop(∃ g, ⌜dst.view.read (Elt F) g = Y⌝
    ∗ (dst.view.loc (dest f c : Thread nD τ) ↦[dst.view.set]{fullShare} g)) from .rfl) $$ Hp
  icases Hp with ⟨%gd, -, Hd⟩
  ihave #H₁ := (invs_snd I κ f c) $$ HI
  ihave #H₂ := (invs_rcv I κ f (dest f c)) $$ HI
  iapply (Rounds.wp_send_pointsTo 𝒱₀ ER (rd I) (c : Thread nD τ) none (c' := (dest f c : Thread nD τ)) (src := src) (dst := dst)
      (sS := .dma (sS f)) (sem := .dma (rS f)) (q := q) (fs := g) (κ₁ := κ (sndC f c)) (κ₂ := κ (rcvC f (dest f c)))
      (r₁ := 0) (r₂ := 0) (d₁ := false) (d₂ := false) (fd := gd)
      (by rw [duties_snd]; exact Finset.mem_singleton_self _) (by rw [duties_rcv]; exact Finset.mem_singleton_self _)
      () () (amt f) ha (amount_snd I c f) (amount_rcv I (dest f c) f) (due c l) rfl (W := W)
      (by
        rw [payload_snd]
        refine BI.Entails.trans ?_ hp₁
        have h := owns_intro (Val := Elt F) (Ix := Unit) (Name := ℕ) (U := UU) (Lvl := ℕ) (c : Thread nD τ) src q g
        rw [hg] at h; exact h)
      (by
        rw [payload_rcv]
        refine BI.Entails.trans ?_ hp₂
        have h := owns_intro (Val := Elt F) (Ix := Unit) (Name := ℕ) (U := UU) (Lvl := ℕ) (dest f c : Thread nD τ) dst fullShare
          (dst.view.write (Elt F) gd (src.view.read (Elt F) g) Finset.univ)
        rw [View.read_write_univ, hg] at h; rw [hg]; exact h)) $$ [Hs Hd HO Ht₁ Ht₂]
  · isplitr; · iexact H₁
    isplitr; · iexact H₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [HO]; · iexists W; iexact HO
  isplitl [Hc]; · iexact Hc
  iexact Hat

/-- The wait for copy `f` to land here. -/
theorem recv {sh : Shape} {e : EltTy} {src dst : Memref sig .tc .vmem sh e} {s : DmaSem sig} (l : List Fl)
    (hs : s = rS f) (ha : dst.view.dmaCredit = amt f) (hl : ∀ f' ∈ l, rank (.rcv f) < rank (.rcv f'))
    {w₁ : src.view.WordExact} {w₂ : dst.view.WordExact} {k : PUnit → Prog (TpuEff nD τ sig (Elt F) Λ₀ .tc) α} :
    iprop(invs I κ ∗ levAts L lv ∗ owe c l ∗ exps f c)
      ⊢ iprop((iprop(owe c l ∗ recvPay I f c ∗ semVal (rcvC f c) 0) -∗ wpc c (k ⟨⟩) Q)
        -∗ wpc c (.op (.waitDma2 s src dst w₁ w₂) k) Q) := by
  subst hs
  unfold exps owe
  iintro ⟨#HI, #Hlev, ⟨%W, HO⟩, ⟨Hc, Hat⟩⟩ Hk
  ihave #H := (invs_rcv I κ f c) $$ HI
  iapply (Rounds.wp_wait_rest_token 𝒱₀ ER (rd I) (c : Thread nD τ) none (κ := κ (rcvC f c))
      (wpE_waitDma2_eq (src := src) (dst := dst) (hsrc := w₁) (hdst := w₂) 𝒱₀ (c : Thread nD τ) none Set.univ) (Set.mem_univ _) () (O := due c l) (W := W)
      (R := 0) (m := 0) (T := ∅) (by rw [expect_rcv, Nat.zero_add, ha])) $$ [Hc HO Hat]
  · isplitr; · iexact H
    isplitl [Hc]; · rw [ha]; iexact Hc
    isplitl [HO]; · iexact HO
    isplitr
    · iapply (mayWait (F := F) c (.dma (rS f)) l (by rw [use_rcv]; exact hl)); iexact Hlev
    iexact Hat
  iintro ⟨HO, Hat, -, Hp⟩
  ihave Hp := (Entails.of_eq (rest_rcv I c f)) $$ Hp
  imod (close I (κ (rcvC f c)) (rcvC f c)) $$ [Hat] with Hz
  · isplitr; · iexact H
    iexact Hat
  iapply Hk
  isplitl [HO]; · iexists _; iexact HO
  isplitl [Hp]; · iexact Hp
  iexact Hz

/-- The wait for copy `f` to have left. -/
theorem left {sh : Shape} {e : EltTy} {sp sp' : Space} {src : Memref sig .tc sp sh e} {dst : Memref sig .tc sp' sh e} {s : DmaSem sig}
    (hs : s = sS f) (ha : dst.view.dmaCredit = amt f)
    {w₁ : src.view.WordExact} {w₂ : dst.view.WordExact} {k : PUnit → Prog (TpuEff nD τ sig (Elt F) Λ₀ .tc) α} :
    iprop(invs I κ ∗ owe c [] ∗ sent f c)
      ⊢ iprop((iprop(owe c [] ∗ sentPay I f c ∗ semVal (sndC f c) 0) -∗ wpc c (k ⟨⟩) Q)
        -∗ wpc c (.op (.waitDma2 s src dst w₁ w₂) k) Q) := by
  subst hs
  unfold sent owe
  iintro ⟨#HI, ⟨%W, HO⟩, ⟨Hc, Hat⟩⟩ Hk
  ihave #H := (invs_snd I κ f c) $$ HI
  iapply (Rounds.wp_wait_rest_token 𝒱₀ ER (rd I) (c : Thread nD τ) none (κ := κ (sndC f c))
      (wpE_waitDma2_eq (src := src) (dst := dst) (hsrc := w₁) (hdst := w₂) 𝒱₀ (c : Thread nD τ) none Set.univ) (Set.mem_univ _) () (O := due c []) (W := W)
      (R := 0) (m := 0) (T := ∅) (by rw [expect_snd, Nat.zero_add, ha])) $$ [Hc HO Hat]
  · isplitr; · iexact H
    isplitl [Hc]; · rw [ha]; iexact Hc
    isplitl [HO]; · iexact HO
    isplitr; · rw [show due c [] = 0 from rfl, MayWait_zero]; iempintro
    iexact Hat
  iintro ⟨HO, Hat, -, Hp⟩
  ihave Hp := (Entails.of_eq (rest_snd I c f)) $$ Hp
  imod (close I (κ (sndC f c)) (sndC f c)) $$ [Hat] with Hz
  · isplitr; · iexact H
    iexact Hat
  iapply Hk
  isplitl [HO]; · iexists _; iexact HO
  isplitl [Hp]; · iexact Hp
  iexact Hz

end Comm

end Cert.KernelIdeal.Moe

end
-- ==== Proof.Chunks.lean ====
/-
  What the kernel does for one chunk, four times over: it sends a chunk of its rows, computes on a
  chunk that arrived and sends the partial sums back, adds the two partial results of a chunk, and
  stores a chunk its neighbour finished.  Each is one rule here, for any chunk.
-/
module

public import proofs.«01_k».proof.Proof.Steps

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A buffer whole is its two halves. -/
theorem halve {sp : Space} {sh : Shape} {e : EltTy} (c : Dev nD) (M : Memref sig .tc sp sh e) (X : sh.Idx → Elt F e) :
    has c M fullShare X ⊢ iprop(has c M hl X ∗ has c M hr X) := (owns_halves (c : Thread nD τ) M fullShare X).1

/-- A big conjunction over four. -/
theorem sep4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem ch_disj (k k' : Fin 4) (h : k ≠ k') : Disjoint (ch k).set (ch k').set := by
  apply Rect.unit_disjoint 0
  have : k.val ≠ k'.val := fun e => h (Fin.ext e)
  show 64 * k.val + 64 ≤ 64 * k'.val ∨ 64 * k'.val + 64 ≤ 64 * k.val
  omega
theorem ch_cov : (Finset.univ : Finset (Fin 4)).biUnion (fun k => (ch k).set) = Finset.univ := by
  ext i
  simp only [Finset.mem_biUnion, Finset.mem_univ, true_and, iff_true]
  have h0 : (i 0).val < 256 := (i 0).isLt
  have h1 : (i 1).val < 512 := (i 1).isLt
  refine ⟨⟨(i 0).val / 64, by omega⟩, Rect.mem_set_unit.mpr fun a => ?_⟩
  match a with
  | 0 => show 64 * ((i 0).val / 64) ≤ (i 0).val ∧ (i 0).val < 64 * ((i 0).val / 64) + 64; omega
  | 1 => show 0 ≤ (i 1).val ∧ (i 1).val < 0 + 512; omega

/-- A buffer's four chunks, together. -/
theorem joinC (c : Dev nD) (M : Memref sig .tc .vmem S256x512 .bf16) (q : PosShare TreeShare) (X : S256x512.Idx → Elt F .bf16) :
    iprop(has c (chM M 0) q (fun i => X ((ch 0).emb i)) ∗ has c (chM M 1) q (fun i => X ((ch 1).emb i))
      ∗ has c (chM M 2) q (fun i => X ((ch 2).emb i)) ∗ has c (chM M 3) q (fun i => X ((ch 3).emb i))) ⊢ has c M q X := by
  have h := owns_of_rects (Val := Elt F) (Ix := Unit) (Name := ℕ) (U := UU) (Lvl := ℕ) (c : Thread nD τ) M q ch (fun _ _ => rfl) ch_disj ch_cov X
  rw [sep4] at h
  exact h

variable (I : Inp F) (κ : GSem nD τ sig → ℕ) (c : Dev nD)
  {α : Type} {Q : α → sProp (MT nD τ sig Unit (Elt F) ℕ UU ℕ)}
  {kont : PUnit → Prog (TpuEff nD τ sig (Elt F) Λ₀ .tc) α}

abbrev Chunk (F : FTy → Type) : Type := S64x512.Idx → Elt F .bf16

/-- Chunk `k` of the rows is put aside and sent. -/
theorem xStep (k : Fin 4) (l : List Fl) (M0 : Memref sig .tc .vmem S512x512 .bf16) (P : Chunk F → Chunk F)
    (hP : P (fun i => I.x c ((inR c k).emb i)) = xsC I c k)
    {dv : Dev nD} (hd : dv = yp c) {s₁ s₂ : DmaSem sig} (h₁ : s₁ = sS (.x k)) (h₂ : s₂ = rS (.x k))
    {a₀ : M0.view.LoadsAt (inR c k).toLoadRect} {a₁ : (xsM : Memref sig .tc .vmem S256x512 .bf16).view.LoadsAt (ch k).toLoadRect}
    {a₂ : ((xsM : Memref sig .tc .vmem S256x512 .bf16).access (ch k)).Stores Finset.univ}
    {a₃ : (Finset.univ : Finset (ch k).shape.Idx) = Finset.univ ∨ ∀ a, (ch k).stride a = 1}
    {a₄ : (chM xsM k).view.WordExact} {a₅ : (chM xrM k).view.WordExact} {a₆ : (chM xrM k).view.ref.isScScratch = false}
    {a₇ : DmaTarget.Typed .vmem (.dma s₂) (.remote (Dev.tc dv : Thread nD τ) (chM xrM k) (.dma s₁) a₆)} :
    iprop(invs I κ ∗ owe c (.x k :: l) ∗ has c M0 fullShare (I.x c) ∗ some c (chM xsM k) ∗ tokS (.x k) c ∗ land (.x k) (yp c))
      ⊢ iprop((iprop(owe c l ∗ has c M0 fullShare (I.x c) ∗ has c (chM xsM k) hr (xsC I c k) ∗ sent (.x k) c) -∗ wpc c (kont ⟨⟩) Q)
        -∗ wpc c (.op (.load M0 (inR c k).toLoadRect a₀) fun v => .op (.load xsM (ch k).toLoadRect a₁) fun _ =>
          .op (.store xsM (ch k) (P v) Finset.univ a₂ a₃) fun _ =>
          .op (.enqueueDma (chM xsM k) (.remote (Dev.tc dv : Thread nD τ) (chM xrM k) (.dma s₁) a₆) (.dma s₂) a₄ a₅ a₇) kont) Q) := by
  iintro ⟨#HI, HO, H0, ⟨%Y, Hc⟩, Ht, Hl⟩ Hk
  iapply (load_part c (M := M0) (r := inR c k)) $$ H0
  iintro H0
  iapply (load_slice c (M := xsM) (r := ch k) (S := chM xsM k) rfl) $$ Hc
  iintro Hc
  iapply (store_slice_eq c (M := xsM) (r := ch k) (S := chM xsM k) rfl (hP)) $$ Hc
  iintro Hc
  ihave Hc := (halve c (chM xsM k) _) $$ Hc
  icases Hc with ⟨Hcl, Hcr⟩
  iapply (send I κ (.x k) c (src := chM xsM k) (dst := chM xrM k) hl (xsC I c k) l hd h₁ h₂ rfl .rfl
    (by unfold recvPay; rw [show yp (dest (.x k) c) = c from yp_yp c]) .rfl) $$ [HO Ht Hcl Hl]
  · isplitr; · iexact HI
    isplitl [HO]; · iexact HO
    isplitl [Ht]; · iexact Ht
    isplitl [Hcl]; · iexact Hcl
    iexact Hl
  iintro ⟨HO, Hs⟩
  iapply Hk
  isplitl [HO]; · iexact HO
  isplitl [H0]; · iexact H0
  isplitl [Hcr]; · iexact Hcr
  iexact Hs

/-- Chunk `k` of the partner's rows arrives; the partial sums for it are computed and sent back. -/
theorem pStep (k : Fin 4) (l : List Fl) (hl' : ∀ f' ∈ (.p k :: l), rank (.rcv (.x k)) < rank (.rcv f'))
    (P : Chunk F → (S64x1.Idx → Elt F .i32) → Chunk F) (hP : P (xsC I (yp c) k) (asC I (yp c) k) = psC I c k)
    {s₀ : DmaSem sig} (h₀ : s₀ = rS (.x k))
    {dv : Dev nD} (hd : dv = yp c) {s₁ s₂ : DmaSem sig} (h₁ : s₁ = sS (.p k)) (h₂ : s₂ = rS (.p k))
    {b₀ : (chM xsM k).view.WordExact} {b₁ : (chM xrM k).view.WordExact}
    {b₂ : (xrM : Memref sig .tc .vmem S256x512 .bf16).view.LoadsAt (ch k).toLoadRect}
    {b₃ : (arM : Memref sig .tc .vmem S256x1 .i32).view.LoadsAt (ach k).toLoadRect}
    {a₁ : (psM : Memref sig .tc .vmem S256x512 .bf16).view.LoadsAt (ch k).toLoadRect}
    {a₂ : ((psM : Memref sig .tc .vmem S256x512 .bf16).access (ch k)).Stores Finset.univ}
    {a₃ : (Finset.univ : Finset (ch k).shape.Idx) = Finset.univ ∨ ∀ a, (ch k).stride a = 1}
    {a₄ : (chM psM k).view.WordExact} {a₅ : (chM presM k).view.WordExact} {a₆ : (chM presM k).view.ref.isScScratch = false}
    {a₇ : DmaTarget.Typed .vmem (.dma s₂) (.remote (Dev.tc dv : Thread nD τ) (chM presM k) (.dma s₁) a₆)} :
    iprop(invs I κ ∗ levAts L lv ∗ owe c (.p k :: l) ∗ exps (.x k) c ∗ has c arM fullShare (asF I (yp c)) ∗ some c (chM psM k)
        ∗ tokS (.p k) c ∗ land (.p k) (yp c))
      ⊢ iprop((iprop(owe c l ∗ has c arM fullShare (asF I (yp c)) ∗ (has c (chM xrM k) fullShare (xsC I (yp c) k) ∗ semVal (rcvC (.x k) c) 0) ∗ sent (.p k) c)
          -∗ wpc c (kont ⟨⟩) Q)
        -∗ wpc c (.op (.waitDma2 s₀ (chM xsM k) (chM xrM k) b₀ b₁) fun _ => .op (.load xrM (ch k).toLoadRect b₂) fun v =>
          .op (.load arM (ach k).toLoadRect b₃) fun a => .op (.load psM (ch k).toLoadRect a₁) fun _ =>
          .op (.store psM (ch k) (P v a) Finset.univ a₂ a₃) fun _ =>
          .op (.enqueueDma (chM psM k) (.remote (Dev.tc dv : Thread nD τ) (chM presM k) (.dma s₁) a₆) (.dma s₂) a₄ a₅ a₇) kont) Q) := by
  iintro ⟨#HI, #Hlev, HO, He, Ha, ⟨%Y, Hc⟩, Ht, Hl⟩ Hk
  iapply (recv I κ (.x k) c (src := chM xsM k) (dst := chM xrM k) (.p k :: l) h₀ rfl hl') $$ [HO He]
  · isplitr; · iexact HI
    isplitr; · iexact Hlev
    isplitl [HO]; · iexact HO
    iexact He
  iintro ⟨HO, Hx, Hz⟩
  ihave Hx := (show recvPay I (.x k) c ⊢ has c (chM xrM k) fullShare (xsC I (yp c) k) from .rfl) $$ Hx
  iapply (load_slice c (M := xrM) (r := ch k) (S := chM xrM k) rfl) $$ Hx
  iintro Hx
  iapply (load_part c (M := arM) (r := ach k)) $$ Ha
  iintro Ha
  iapply (load_slice c (M := psM) (r := ch k) (S := chM psM k) rfl) $$ Hc
  iintro Hc
  iapply (store_slice_eq c (M := psM) (r := ch k) (S := chM psM k) rfl (hP)) $$ Hc
  iintro Hc
  iapply (send I κ (.p k) c (src := chM psM k) (dst := chM presM k) fullShare (psC I c k) l hd h₁ h₂ rfl .rfl
    (by unfold recvPay; rw [show yp (dest (.p k) c) = c from yp_yp c]) .rfl) $$ [HO Ht Hc Hl]
  · isplitr; · iexact HI
    isplitl [HO]; · iexact HO
    isplitl [Ht]; · iexact Ht
    isplitl [Hc]; · iexact Hc
    iexact Hl
  iintro ⟨HO, Hs⟩
  iapply Hk
  isplitl [HO]; · iexact HO
  isplitl [Ha]; · iexact Ha
  isplitl [Hx Hz]
  · isplitl [Hx]; · iexact Hx
    iexact Hz
  iexact Hs

/-- The partner's partial sums for chunk `k` arrive and are sent on; with the device's own they make a chunk of the result. -/
theorem qStep (k : Fin 4) (l : List Fl) (hl' : ∀ f' ∈ (.q k :: l), rank (.rcv (.p k)) < rank (.rcv f'))
    (M4 : Memref sig .tc .vmem S512x512 .bf16) (P : Chunk F → Chunk F → Chunk F) (hP : ∀ u v, P u v = addC u v)
    {s₀ : DmaSem sig} (h₀ : s₀ = rS (.p k))
    {dv : Dev nD} (hd : dv = xn c) {s₁ s₂ : DmaSem sig} (h₁ : s₁ = sS (.q k)) (h₂ : s₂ = rS (.q k))
    {b₀ : (chM psM k).view.WordExact} {b₁ : (chM presM k).view.WordExact}
    {b₂ : (ownM : Memref sig .tc .vmem S256x512 .bf16).view.LoadsAt (ch k).toLoadRect}
    {b₃ : (presM : Memref sig .tc .vmem S256x512 .bf16).view.LoadsAt (ch k).toLoadRect}
    {a₁ : M4.view.LoadsAt (inR c k).toLoadRect} {a₂ : (M4.access (inR c k)).Stores Finset.univ}
    {a₃ : (Finset.univ : Finset (inR c k).shape.Idx) = Finset.univ ∨ ∀ a, (inR c k).stride a = 1}
    {a₄ : (chM presM k).view.WordExact} {a₅ : (chM presfM k).view.WordExact} {a₆ : (chM presfM k).view.ref.isScScratch = false}
    {a₇ : DmaTarget.Typed .vmem (.dma s₂) (.remote (Dev.tc dv : Thread nD τ) (chM presfM k) (.dma s₁) a₆)} :
    iprop(invs I κ ∗ levAts L lv ∗ owe c (.q k :: l) ∗ exps (.p k) c ∗ has c ownM hr (ownF I c)
        ∗ some (F := F) c (M4.slice (inR c k) fun _ => rfl) ∗ tokS (.q k) c ∗ land (.q k) (xn c))
      ⊢ iprop((iprop(owe c l ∗ has c ownM hr (ownF I c) ∗ has c (M4.slice (inR c k) fun _ => rfl) fullShare (outN I c k)
            ∗ (has c (chM presM k) hr (psC I (yp c) k) ∗ semVal (rcvC (.p k) c) 0) ∗ sent (.q k) c)
          -∗ wpc c (kont ⟨⟩) Q)
        -∗ wpc c (.op (.waitDma2 s₀ (chM psM k) (chM presM k) b₀ b₁) fun _ =>
          .op (.enqueueDma (chM presM k) (.remote (Dev.tc dv : Thread nD τ) (chM presfM k) (.dma s₁) a₆) (.dma s₂) a₄ a₅ a₇) fun _ =>
          .op (.load ownM (ch k).toLoadRect b₂) fun u => .op (.load presM (ch k).toLoadRect b₃) fun v =>
          .op (.load M4 (inR c k).toLoadRect a₁) fun _ => .op (.store M4 (inR c k) (P u v) Finset.univ a₂ a₃) kont) Q) := by
  iintro ⟨#HI, #Hlev, HO, He, Ho, ⟨%Y, Hc⟩, Ht, Hl⟩ Hk
  iapply (recv I κ (.p k) c (src := chM psM k) (dst := chM presM k) (.q k :: l) h₀ rfl hl') $$ [HO He]
  · isplitr; · iexact HI
    isplitr; · iexact Hlev
    isplitl [HO]; · iexact HO
    iexact He
  iintro ⟨HO, Hx, Hz⟩
  ihave Hx := (show recvPay I (.p k) c ⊢ has c (chM presM k) fullShare (psC I (yp c) k) from .rfl) $$ Hx
  ihave Hx := (halve c (chM presM k) _) $$ Hx
  icases Hx with ⟨Hxl, Hxr⟩
  iapply (send I κ (.q k) c (src := chM presM k) (dst := chM presfM k) hl (psC I (yp c) k) l hd h₁ h₂ rfl .rfl
    (by unfold recvPay; rw [show xn (dest (.q k) c) = c from xn_xn c]) .rfl) $$ [HO Ht Hxl Hl]
  · isplitr; · iexact HI
    isplitl [HO]; · iexact HO
    isplitl [Ht]; · iexact Ht
    isplitl [Hxl]; · iexact Hxl
    iexact Hl
  iintro ⟨HO, Hs⟩
  iapply (load_part c (M := ownM) (r := ch k)) $$ Ho
  iintro Ho
  iapply (load_slice c (M := presM) (r := ch k) (S := chM presM k) rfl) $$ Hxr
  iintro Hxr
  iapply (load_slice c (M := M4) (r := inR c k) (hu := fun _ => rfl) rfl) $$ Hc
  iintro Hc
  iapply (store_slice_eq c (M := M4) (r := inR c k) (hu := fun _ => rfl) rfl (hP (ownC I c k) (psC I (yp c) k))) $$ Hc
  iintro Hc
  iapply Hk
  isplitl [HO]; · iexact HO
  isplitl [Ho]; · iexact Ho
  isplitl [Hc]; · iexact Hc
  isplitl [Hxr Hz]
  · isplitl [Hxr]; · iexact Hxr
    iexact Hz
  iexact Hs

/-- The neighbour's partial results for chunk `k` arrive and make a chunk of the result's other half. -/
theorem rStep (k : Fin 4) (M4 : Memref sig .tc .vmem S512x512 .bf16) (P : Chunk F → Chunk F → Chunk F) (hP : ∀ u v, P u v = addC u v)
    {s₀ : DmaSem sig} (h₀ : s₀ = rS (.q k))
    {b₀ : (chM presM k).view.WordExact} {b₁ : (chM presfM k).view.WordExact}
    {b₂ : (ownrM : Memref sig .tc .vmem S256x512 .bf16).view.LoadsAt (ch k).toLoadRect}
    {b₃ : (presfM : Memref sig .tc .vmem S256x512 .bf16).view.LoadsAt (ch k).toLoadRect}
    {a₁ : M4.view.LoadsAt (outR c k).toLoadRect} {a₂ : (M4.access (outR c k)).Stores Finset.univ}
    {a₃ : (Finset.univ : Finset (outR c k).shape.Idx) = Finset.univ ∨ ∀ a, (outR c k).stride a = 1} :
    iprop(invs I κ ∗ levAts L lv ∗ owe c [] ∗ exps (.q k) c ∗ has c ownrM fullShare (ownF I (xn c))
        ∗ some (F := F) c (M4.slice (outR c k) fun _ => rfl))
      ⊢ iprop((iprop(owe c [] ∗ has c ownrM fullShare (ownF I (xn c)) ∗ has c (M4.slice (outR c k) fun _ => rfl) fullShare (outX I c k)
            ∗ (has c (chM presfM k) fullShare (psC I (yp (xn c)) k) ∗ semVal (rcvC (.q k) c) 0)) -∗ wpc c (kont ⟨⟩) Q)
        -∗ wpc c (.op (.waitDma2 s₀ (chM presM k) (chM presfM k) b₀ b₁) fun _ =>
          .op (.load ownrM (ch k).toLoadRect b₂) fun u => .op (.load presfM (ch k).toLoadRect b₃) fun v =>
          .op (.load M4 (outR c k).toLoadRect a₁) fun _ => .op (.store M4 (outR c k) (P u v) Finset.univ a₂ a₃) kont) Q) := by
  iintro ⟨#HI, #Hlev, HO, He, Ho, ⟨%Y, Hc⟩⟩ Hk
  iapply (recv I κ (.q k) c (src := chM presM k) (dst := chM presfM k) [] h₀ rfl (fun f' hf => absurd hf List.not_mem_nil)) $$ [HO He]
  · isplitr; · iexact HI
    isplitr; · iexact Hlev
    isplitl [HO]; · iexact HO
    iexact He
  iintro ⟨HO, Hx, Hz⟩
  ihave Hx := (show recvPay I (.q k) c ⊢ has c (chM presfM k) fullShare (psC I (yp (xn c)) k) from .rfl) $$ Hx
  iapply (load_part c (M := ownrM) (r := ch k)) $$ Ho
  iintro Ho
  iapply (load_slice c (M := presfM) (r := ch k) (S := chM presfM k) rfl) $$ Hx
  iintro Hx
  iapply (load_slice c (M := M4) (r := outR c k) (hu := fun _ => rfl) rfl) $$ Hc
  iintro Hc
  iapply (store_slice_eq c (M := M4) (r := outR c k) (hu := fun _ => rfl) rfl (hP (ownC I (xn c) k) (psC I (yp (xn c)) k))) $$ Hc
  iintro Hc
  iapply Hk
  isplitl [HO]; · iexact HO
  isplitl [Ho]; · iexact Ho
  isplitl [Hc]; · iexact Hc
  isplitl [Hx]; · iexact Hx
  iexact Hz

/-- The three copies of chunk `k` have left. -/
theorem wStep (k : Fin 4) {s₀ s₁ s₂ : DmaSem sig} (h₀ : s₀ = sS (.x k)) (h₁ : s₁ = sS (.p k)) (h₂ : s₂ = sS (.q k))
    {b₀ : (chM xrM k).view.WordExact} {b₁ : (chM xsM k).view.WordExact}
    {b₂ : (chM presM k).view.WordExact} {b₃ : (chM psM k).view.WordExact}
    {b₄ : (chM presfM k).view.WordExact} {b₅ : (chM presM k).view.WordExact} :
    iprop(invs I κ ∗ owe c [] ∗ sent (.x k) c ∗ sent (.p k) c ∗ sent (.q k) c)
      ⊢ iprop((iprop(owe c [] ∗ (sentPay I (.x k) c ∗ semVal (sndC (.x k) c) 0) ∗ (sentPay I (.p k) c ∗ semVal (sndC (.p k) c) 0)
            ∗ (sentPay I (.q k) c ∗ semVal (sndC (.q k) c) 0)) -∗ wpc c (kont ⟨⟩) Q)
        -∗ wpc c (.op (.waitDma2 s₀ (chM xrM k) (chM xsM k) b₀ b₁) fun _ => .op (.waitDma2 s₁ (chM presM k) (chM psM k) b₂ b₃) fun _ =>
          .op (.waitDma2 s₂ (chM presfM k) (chM presM k) b₄ b₅) kont) Q) := by
  iintro ⟨#HI, HO, Hx, Hp, Hq⟩ Hk
  iapply (left I κ (.x k) c (src := chM xrM k) (dst := chM xsM k) h₀ rfl) $$ [HO Hx]
  · isplitr; · iexact HI
    isplitl [HO]; · iexact HO
    iexact Hx
  iintro ⟨HO, Hx⟩
  iapply (left I κ (.p k) c (src := chM presM k) (dst := chM psM k) h₁ rfl) $$ [HO Hp]
  · isplitr; · iexact HI
    isplitl [HO]; · iexact HO
    iexact Hp
  iintro ⟨HO, Hp⟩
  iapply (left I κ (.q k) c (src := chM presfM k) (dst := chM presM k) h₂ rfl) $$ [HO Hq]
  · isplitr; · iexact HI
    isplitl [HO]; · iexact HO
    iexact Hq
  iintro ⟨HO, Hq⟩
  iapply Hk
  isplitl [HO]; · iexact HO
  isplitl [Hx]; · iexact Hx
  isplitl [Hp]; · iexact Hp
  iexact Hq

end Cert.KernelIdeal.Moe

end
-- ==== Proof.Run.lean ====
/-
  The whole body on one device: the barrier, then the chunks, from the buffers, tokens and debts it
  starts from to the buffers and counters it gives back.
-/
module

public import proofs.«01_k».proof.Proof.Chunks
public import Idealize.ShloMosaic.Lib.Pipeline.Value

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Barrier

variable (I : Inp F) (κ : GSem nD τ sig → ℕ) (c : Dev nD)
  {α : Type} {Q : α → sProp (MT nD τ sig Unit (Elt F) ℕ UU ℕ)}
  {kont : PUnit → Prog (TpuEff nD τ sig (Elt F) Λ₀ .tc) α}

/-- A signal to device `c'`: the places this device offers it go with it. -/
theorem signal (b : Bool) (c' : Dev nD) {dv : Dev nD} (hd : dv = c') {s : Sem sig} (hs : s = barS) {n : ℤ} (hn : n = ((1 : ℕ) : ℤ))
    (O : CellTallies nD τ sig Unit) (W : Waits sig Unit) :
    iprop(invs I κ ∗ owes (c : Thread nD τ) (O + tallyAt (barC c') () 1) W ∗ dutyTok ER (barC c') 0 b ∗ barPay b c' ∗ reached ER (barC c') 0)
      ⊢ iprop((owes (c : Thread nD τ) O W -∗ wpc c (kont ⟨⟩) Q)
        -∗ wpc c (.op (.semSignal ((dv, .tc) : Thread nD τ) s n) kont) Q) := by
  subst hd hs hn
  iintro ⟨#HI, HO, Ht, Hp, #Hr⟩ Hk
  ihave #H := (invs_bar I κ dv) $$ HI
  iapply (Rounds.wp_signal 𝒱₀ ER (rd I) (c : Thread nD τ) none (dst := (dv : Thread nD τ)) (sem := barS) (r := 0) (d := b) (κ := κ (barC dv))
      (by rw [duties_bar]; cases b <;> decide) (amount_bar I dv b) () O rfl) $$ [HO Ht Hp]
  · isplitr; · iexact H
    isplitl [HO]; · iexact HO
    isplitl [Ht]; · iexact Ht
    isplitl [Hp]; · rw [payload_bar]; iexact Hp
    iexact Hr
  iexact Hk

/-- The wait for both partners: their places come with it. -/
theorem barWait {s : Sem sig} (hs : s = barS) {n : ℤ} (hn : n = ((2 : ℕ) : ℤ)) (W : Waits sig Unit) :
    iprop(invs I κ ∗ levAts L lv ∗ owes (c : Thread nD τ) (due c Fl.all) W ∗ cred (tallyAt (barC c) () 2) ∗ atPos ER (barC c) 0 ∅ 0)
      ⊢ iprop((iprop(owe c Fl.all ∗ lands yFl (yp c) ∗ lands xFl (xn c) ∗ semVal (barC c) 0) -∗ wpc c (kont ⟨⟩) Q)
        -∗ wpc c (.op (.semWait s n) kont) Q) := by
  subst hs hn
  unfold owe
  iintro ⟨#HI, #Hlev, HO, Hc, Hat⟩ Hk
  ihave #H := (invs_bar I κ c) $$ HI
  iapply (Rounds.wp_wait_rest_token 𝒱₀ ER (rd I) (c : Thread nD τ) none (κ := κ (barC c))
      (wpE_semWait_eq (sem := barS) (k := 2) 𝒱₀ (c : Thread nD τ) none Set.univ) (Set.mem_univ _) () (O := due c Fl.all) (W := W)
      (R := 0) (m := 0) (T := ∅) (by rw [expect_bar])) $$ [Hc HO Hat]
  · isplitr; · iexact H
    isplitl [Hc]; · iexact Hc
    isplitl [HO]; · iexact HO
    isplitr
    · iapply (mayWait (F := F) c (.reg barS) Fl.all (by rw [use_bar]; decide)); iexact Hlev
    iexact Hat
  iintro ⟨HO, Hat, -, Hp⟩
  ihave Hp := (Entails.of_eq (rest_bar I c)) $$ Hp
  icases Hp with ⟨Hy, Hx⟩
  imod (close I (κ (barC c)) (barC c)) $$ [Hat] with Hz
  · isplitr; · iexact H
    iexact Hat
  iapply Hk
  isplitl [HO]; · iexists _; iexact HO
  isplitl [Hy]; · iexact Hy
  isplitl [Hx]; · iexact Hx
  iexact Hz

end Barrier

variable (I : Inp F) (κ : GSem nD τ sig → ℕ) (c : Dev nD)

/-- The chunk of rows the program copies aside is the one named. -/
theorem xs_in (k : Fin 4) : (fun i => I.x c ((inR c k).emb i)) = xsC I c k := by
  funext i
  show I.x c ((inR c k).emb i) = I.x c _
  congr 1
  funext b
  apply Fin.ext
  have e := k0_off2_eq c k
  show k0_off2 c (BitVec.ofNat 32 (64 * k.val)) b + 1 * (i b).val = _
  rw [e]
  match b with
  | 0 =>
    show 256 * (c.val / 4) + 64 * k.val + 1 * (i 0).val = 256 * (c.val / 4) + (64 * k.val + 1 * (i 0).val)
    omega
  | 1 => show 0 + 1 * (i 1).val = 0 + 1 * (i 1).val; rfl

theorem pay2_eq (v : Chunk F) : k0_pay2 v = v := by unfold k0_pay2; simp only [shapeCast_self]
theorem pay4_eq (v : Chunk F) : k0_pay4 (k0_pay3 v) = v := by unfold k0_pay4 k0_pay3; simp only [shapeCast_self]
theorem pay5_eq (v : Chunk F) : k0_pay5 v = v := by unfold k0_pay5; simp only [shapeCast_self]
theorem pay6_eq (v : Chunk F) : k0_pay6 v = v := by unfold k0_pay6; simp only [shapeCast_self]

/-- The chunks of the rows put aside, together. -/
theorem join_xs : iprop(has c (chM xsM 0) hr (xsC I c 0) ∗ has c (chM xsM 1) hr (xsC I c 1) ∗ has c (chM xsM 2) hr (xsC I c 2)
    ∗ has c (chM xsM 3) hr (xsC I c 3)) ⊢ has c xsM hr (xsF I c) := joinC c xsM hr (xsF I c)

/-- What the barrier takes. -/
def barPre : sProp 𝕄 :=
  iprop(dutyTok ER (barC (yp c)) 0 false ∗ dutyTok ER (barC (xn c)) 0 true ∗ reached ER (barC (yp c)) 0 ∗ reached ER (barC (xn c)) 0
    ∗ atPos ER (barC c) 0 ∅ 0 ∗ cred (tallyAt (barC c) () 2))
/-- What chunk `k` takes. -/
def chunkPre (M4 : Memref sig .tc .vmem S512x512 .bf16) (k : Fin 4) : sProp 𝕄 :=
  iprop((some c (chM xsM k) ∗ tokS (.x k) c) ∗ (some c (chM psM k) ∗ exps (.x k) c ∗ tokS (.p k) c)
    ∗ (some (F := F) c (M4.slice (inR c k) fun _ => rfl) ∗ exps (.p k) c ∗ tokS (.q k) c)
    ∗ (some (F := F) c (M4.slice (outR c k) fun _ => rfl) ∗ exps (.q k) c))
/-- What chunk `k` leaves. -/
def chunkPost (M4 : Memref sig .tc .vmem S512x512 .bf16) (k : Fin 4) : sProp 𝕄 :=
  iprop((has c (chM xrM k) fullShare (xsC I (yp c) k) ∗ semVal (rcvC (.x k) c) 0)
    ∗ (has c (chM presM k) hr (psC I (yp c) k) ∗ semVal (rcvC (.p k) c) 0)
    ∗ (has c (chM presfM k) fullShare (psC I (yp (xn c)) k) ∗ semVal (rcvC (.q k) c) 0)
    ∗ ((sentPay I (.x k) c ∗ semVal (sndC (.x k) c) 0) ∗ (sentPay I (.p k) c ∗ semVal (sndC (.p k) c) 0)
      ∗ (sentPay I (.q k) c ∗ semVal (sndC (.q k) c) 0))
    ∗ has c (M4.slice (inR c k) fun _ => rfl) fullShare (outN I c k)
    ∗ has c (M4.slice (outR c k) fun _ => rfl) fullShare (outX I c k))
/-- The device's own inputs. -/
def inputs (M0 : Memref sig .tc .vmem S512x512 .bf16) (M1 : Memref sig .tc .vmem S512x1 .i32)
    (M2 : Memref sig .tc .vmem S2x512x1024 .bf16) (M3 : Memref sig .tc .vmem S2x1024x512 .bf16) : sProp 𝕄 :=
  iprop(has c M0 fullShare (I.x c) ∗ has c M1 fullShare (I.a c) ∗ has c M2 fullShare (I.w1 c) ∗ has c M3 fullShare (I.w2 c))

/-- What the body takes. -/
def runPre (M0 : Memref sig .tc .vmem S512x512 .bf16) (M1 : Memref sig .tc .vmem S512x1 .i32)
    (M2 : Memref sig .tc .vmem S2x512x1024 .bf16) (M3 : Memref sig .tc .vmem S2x1024x512 .bf16)
    (M4 : Memref sig .tc .vmem S512x512 .bf16) (W : Waits sig Unit) : sProp 𝕄 :=
  iprop(invs I κ ∗ levAts L lv ∗ owes (c : Thread nD τ) (due₀ c) W ∗ barPre c ∗ (lands yFl c ∗ lands xFl c) ∗ inputs I c M0 M1 M2 M3
    ∗ (some c asM ∗ tokS .a c ∗ exps .a c) ∗ (some c ownM ∗ tokS .o c ∗ exps .o c)
    ∗ chunkPre c M4 0 ∗ chunkPre c M4 1 ∗ chunkPre c M4 2 ∗ chunkPre c M4 3)
/-- What it leaves. -/
def runPost (M0 : Memref sig .tc .vmem S512x512 .bf16) (M1 : Memref sig .tc .vmem S512x1 .i32)
    (M2 : Memref sig .tc .vmem S2x512x1024 .bf16) (M3 : Memref sig .tc .vmem S2x1024x512 .bf16)
    (M4 : Memref sig .tc .vmem S512x512 .bf16) : sProp 𝕄 :=
  iprop(owe c [] ∗ semVal (barC c) 0 ∗ inputs I c M0 M1 M2 M3
    ∗ (has c asM hr (asF I c) ∗ has c arM fullShare (asF I (yp c)) ∗ semVal (rcvC .a c) 0 ∗ sentPay I .a c ∗ semVal (sndC .a c) 0)
    ∗ (has c ownM hr (ownF I c) ∗ has c ownrM fullShare (ownF I (xn c)) ∗ semVal (rcvC .o c) 0 ∗ sentPay I .o c ∗ semVal (sndC .o c) 0)
    ∗ has c xsM hr (xsF I c)
    ∗ chunkPost I c M4 0 ∗ chunkPost I c M4 1 ∗ chunkPost I c M4 2 ∗ chunkPost I c M4 3)

set_option pp.maxSteps 400 in
set_option maxRecDepth 65536 in
set_option maxHeartbeats 8000000 in
theorem run (M0 : Memref sig .tc .vmem S512x512 .bf16) (h0 : M0.IsWhole) (M1 : Memref sig .tc .vmem S512x1 .i32) (h1 : M1.IsWhole)
    (M2 : Memref sig .tc .vmem S2x512x1024 .bf16) (h2 : M2.IsWhole) (M3 : Memref sig .tc .vmem S2x1024x512 .bf16) (h3 : M3.IsWhole)
    (M4 : Memref sig .tc .vmem S512x512 .bf16) (h4 : M4.IsWhole) (W : Waits sig Unit)
    (Q : PUnit → sProp (MT nD τ sig Unit (Elt F) ℕ UU ℕ)) :
    iprop(runPre I κ c M0 M1 M2 M3 M4 W ∗ (runPost I c M0 M1 M2 M3 M4 -∗ Q ⟨⟩))
      ⊢ wpc c (cc0_body (F := F) M0 h0 M1 h1 M2 h2 M3 h3 M4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18) Q := by
  simp only [cc0_body_eq_skeleton, cc0_body_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton,
    k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, semSignalWord, semWaitWord, Prog.lift, Prog.bind_op, Prog.bind_ret, Prog.pure_eq_ret,
    wpc, wp_deviceId]
  unfold runPre barPre inputs
  iintro ⟨⟨#HI, #Hlev, HO, ⟨HtY, HtX, #HrY, #HrX, HatB, HcB⟩, ⟨HlY, HlX⟩, ⟨H0, H1, H2, H3⟩, ⟨⟨%Ya, Has⟩, Hta, Hea⟩, ⟨⟨%Yo, Hown⟩, Hto, Heo⟩, HC0, HC1, HC2, HC3⟩, Hk⟩
  -- the barrier
  iapply (signal I κ c false (yp c) (Fin.ext (k0_dev1_eq c)) rfl (by decide) (due c Fl.all + tallyAt (barC (xn c)) () 1) W) $$ [HO HtY HlY]
  · isplitr; · iexact HI
    isplitl [HO]; · iexact HO
    isplitl [HtY]; · iexact HtY
    isplitl [HlY]
    · rw [show barPay (F := F) false (yp c) = lands yFl c from by show lands yFl (yp (yp c)) = _; rw [yp_yp]]; iexact HlY
    iexact HrY
  iintro HO
  iapply (signal I κ c true (xn c) (Fin.ext (k0_dev2_eq c)) rfl (by decide) (due c Fl.all) W) $$ [HO HtX HlX]
  · isplitr; · iexact HI
    isplitl [HO]; · iexact HO
    isplitl [HtX]; · iexact HtX
    isplitl [HlX]
    · rw [show barPay (F := F) true (xn c) = lands xFl c from by show lands xFl (xn (xn c)) = _; rw [xn_xn]]; iexact HlX
    iexact HrX
  iintro HO
  iapply (barWait I κ c rfl (by decide) W) $$ [HO HcB HatB]
  · isplitr; · iexact HI
    isplitr; · iexact Hlev
    isplitl [HO]; · iexact HO
    isplitl [HcB]; · iexact HcB
    iexact HatB
  iintro ⟨HO, HlY, HlX, HzB⟩
  ihave HlY := (show lands (F := F) yFl (yp c) ⊢ iprop(land .a (yp c) ∗ land (.x 0) (yp c) ∗ land (.x 1) (yp c) ∗ land (.x 2) (yp c) ∗ land (.x 3) (yp c)
      ∗ land (.p 0) (yp c) ∗ land (.p 1) (yp c) ∗ land (.p 2) (yp c) ∗ land (.p 3) (yp c) ∗ emp) from .rfl) $$ HlY
  ihave HlX := (show lands (F := F) xFl (xn c) ⊢ iprop(land .o (xn c) ∗ land (.q 0) (xn c) ∗ land (.q 1) (xn c) ∗ land (.q 2) (xn c) ∗ land (.q 3) (xn c)
      ∗ emp) from .rfl) $$ HlX
  icases HlY with ⟨Hla, Hlx0, Hlx1, Hlx2, Hlx3, Hlp0, Hlp1, Hlp2, Hlp3, -⟩
  icases HlX with ⟨Hlo, Hlq0, Hlq1, Hlq2, Hlq3, -⟩
  -- the assignment
  iapply (load_part c (M := M1) (r := inA c)) $$ H1
  iintro H1
  iapply (load_whole c (M := asM) (by decide)) $$ Has
  iintro Has
  iapply (store_whole_eq c (M := asM) (by decide) (w' := asF I c) rfl) $$ Has
  iintro Has
  ihave Has := (halve c asM _) $$ Has
  icases Has with ⟨Hasl, Hasr⟩
  iapply (send I κ .a c (src := asM) (dst := arM) hl (asF I c) [.x 0, .x 1, .x 2, .x 3, .o, .p 0, .p 1, .p 2, .p 3, .q 0, .q 1, .q 2, .q 3]
    (Fin.ext (k0_dev3_eq c)) (by decide) (by decide) rfl .rfl (by unfold recvPay; rw [show yp (dest .a c) = c from yp_yp c]) .rfl) $$ [HO Hta Hasl Hla]
  · isplitr; · iexact HI
    isplitl [HO]; · iexact HO
    isplitl [Hta]; · iexact Hta
    isplitl [Hasl]; · iexact Hasl
    iexact Hla
  iintro ⟨HO, Hsa⟩
  unfold chunkPre
  icases HC0 with ⟨⟨Hxs0, Htx0⟩, ⟨Hps0, Hex0, Htp0⟩, ⟨Hi0, Hep0, Htq0⟩, ⟨Ho0, Heq0⟩⟩
  icases HC1 with ⟨⟨Hxs1, Htx1⟩, ⟨Hps1, Hex1, Htp1⟩, ⟨Hi1, Hep1, Htq1⟩, ⟨Ho1, Heq1⟩⟩
  icases HC2 with ⟨⟨Hxs2, Htx2⟩, ⟨Hps2, Hex2, Htp2⟩, ⟨Hi2, Hep2, Htq2⟩, ⟨Ho2, Heq2⟩⟩
  icases HC3 with ⟨⟨Hxs3, Htx3⟩, ⟨Hps3, Hex3, Htp3⟩, ⟨Hi3, Hep3, Htq3⟩, ⟨Ho3, Heq3⟩⟩
  -- the rows, chunk by chunk
  iapply (xStep I κ c 0 [.x 1, .x 2, .x 3, .o, .p 0, .p 1, .p 2, .p 3, .q 0, .q 1, .q 2, .q 3] M0 (k0_pay2) ((pay2_eq _).trans (xs_in I c 0)) (Fin.ext (k0_dev4_eq c)) (by decide) (by decide)) $$ [HO H0 Hxs0 Htx0 Hlx0]
  · isplitr; · iexact HI
    isplitl [HO]; · iexact HO
    isplitl [H0]; · iexact H0
    isplitl [Hxs0]; · iexact Hxs0
    isplitl [Htx0]; · iexact Htx0
    iexact Hlx0
  iintro ⟨HO, H0, Hxs0, Hsx0⟩
  iapply (xStep I κ c 1 [.x 2, .x 3, .o, .p 0, .p 1, .p 2, .p 3, .q 0, .q 1, .q 2, .q 3] M0 (fun v => k0_pay4 (k0_pay3 v)) ((pay4_eq _).trans (xs_in I c 1)) (Fin.ext (k0_dev5_eq c)) (by decide) (by decide)) $$ [HO H0 Hxs1 Htx1 Hlx1]
  · isplitr; · iexact HI
    isplitl [HO]; · iexact HO
    isplitl [H0]; · iexact H0
    isplitl [Hxs1]; · iexact Hxs1
    isplitl [Htx1]; · iexact Htx1
    iexact Hlx1
  iintro ⟨HO, H0, Hxs1, Hsx1⟩
  iapply (xStep I κ c 2 [.x 3, .o, .p 0, .p 1, .p 2, .p 3, .q 0, .q 1, .q 2, .q 3] M0 (k0_pay5) ((pay5_eq _).trans (xs_in I c 2)) (Fin.ext (k0_dev6_eq c)) (by decide) (by decide)) $$ [HO H0 Hxs2 Htx2 Hlx2]
  · isplitr; · iexact HI
    isplitl [HO]; · iexact HO
    isplitl [H0]; · iexact H0
    isplitl [Hxs2]; · iexact Hxs2
    isplitl [Htx2]; · iexact Htx2
    iexact Hlx2
  iintro ⟨HO, H0, Hxs2, Hsx2⟩
  iapply (xStep I κ c 3 [.o, .p 0, .p 1, .p 2, .p 3, .q 0, .q 1, .q 2, .q 3] M0 (k0_pay6) ((pay6_eq _).trans (xs_in I c 3)) (Fin.ext (k0_dev7_eq c)) (by decide) (by decide)) $$ [HO H0 Hxs3 Htx3 Hlx3]
  · isplitr; · iexact HI
    isplitl [HO]; · iexact HO
    isplitl [H0]; · iexact H0
    isplitl [Hxs3]; · iexact Hxs3
    isplitl [Htx3]; · iexact Htx3
    iexact Hlx3
  iintro ⟨HO, H0, Hxs3, Hsx3⟩
  -- the weights
  iapply (load_part c (M := M2)) $$ H2
  iintro H2
  iapply (load_part c (M := M2)) $$ H2
  iintro H2
  iapply (load_part c (M := M3)) $$ H3
  iintro H3
  iapply (load_part c (M := M3)) $$ H3
  iintro H3
  -- the device's own half
  ihave Hxs := (join_xs I c) $$ [Hxs0 Hxs1 Hxs2 Hxs3]
  · isplitl [Hxs0]; · iexact Hxs0
    isplitl [Hxs1]; · iexact Hxs1
    isplitl [Hxs2]; · iexact Hxs2
    iexact Hxs3
  iapply (load_whole c (M := xsM) (by decide)) $$ Hxs
  iintro Hxs
  iapply (load_whole c (M := asM) (by decide)) $$ Hasr
  iintro Hasr
  iapply (load_whole c (M := ownM) (by decide)) $$ Hown
  iintro Hown
  iapply (store_whole_eq c (M := ownM) (by decide) (w' := ownF I c) rfl) $$ Hown
  iintro Hown
  ihave Hown := (halve c ownM _) $$ Hown
  icases Hown with ⟨Hownl, Hownr⟩
  iapply (send I κ .o c (src := ownM) (dst := ownrM) hl (ownF I c) [.p 0, .p 1, .p 2, .p 3, .q 0, .q 1, .q 2, .q 3]
    (Fin.ext (k0_dev8_eq c)) (by decide) (by decide) rfl .rfl (by unfold recvPay; rw [show xn (dest .o c) = c from xn_xn c]) .rfl) $$ [HO Hto Hownl Hlo]
  · isplitr; · iexact HI
    isplitl [HO]; · iexact HO
    isplitl [Hto]; · iexact Hto
    isplitl [Hownl]; · iexact Hownl
    iexact Hlo
  iintro ⟨HO, Hso⟩
  iapply (recv I κ .a c (src := asM) (dst := arM) [.p 0, .p 1, .p 2, .p 3, .q 0, .q 1, .q 2, .q 3] (by decide) rfl (by decide)) $$ [HO Hea]
  · isplitr; · iexact HI
    isplitr; · iexact Hlev
    isplitl [HO]; · iexact HO
    iexact Hea
  iintro ⟨HO, Har, Hza⟩
  ihave Har := (show recvPay I .a c ⊢ has c arM fullShare (asF I (yp c)) from .rfl) $$ Har
  -- the partner's half, chunk by chunk
  iapply (pStep I κ c 0 [.p 1, .p 2, .p 3, .q 0, .q 1, .q 2, .q 3] (by decide) (fun v a => k0_pay13 (yW c) (w11 I c) (w21 I c) v a (k0_pay12 (yW c) (w10 I c) (w20 I c) v a) 2#32) rfl (by decide) (Fin.ext (k0_dev9_eq c)) (by decide) (by decide)) $$ [HO Hex0 Har Hps0 Htp0 Hlp0]
  · isplitr; · iexact HI
    isplitr; · iexact Hlev
    isplitl [HO]; · iexact HO
    isplitl [Hex0]; · iexact Hex0
    isplitl [Har]; · iexact Har
    isplitl [Hps0]; · iexact Hps0
    isplitl [Htp0]; · iexact Htp0
    iexact Hlp0
  iintro ⟨HO, Har, Hxr0, Hsp0⟩
  iapply (pStep I κ c 1 [.p 2, .p 3, .q 0, .q 1, .q 2, .q 3] (by decide) (fun v a => k0_pay15 (k0_pay14 (yW c) (w10 I c) (w11 I c) (w20 I c) (w21 I c) v a)) rfl (by decide) (Fin.ext (k0_dev10_eq c)) (by decide) (by decide)) $$ [HO Hex1 Har Hps1 Htp1 Hlp1]
  · isplitr; · iexact HI
    isplitr; · iexact Hlev
    isplitl [HO]; · iexact HO
    isplitl [Hex1]; · iexact Hex1
    isplitl [Har]; · iexact Har
    isplitl [Hps1]; · iexact Hps1
    isplitl [Htp1]; · iexact Htp1
    iexact Hlp1
  iintro ⟨HO, Har, Hxr1, Hsp1⟩
  iapply (pStep I κ c 2 [.p 3, .q 0, .q 1, .q 2, .q 3] (by decide) (fun v a => k0_pay17 (yW c) (w10 I c) (w11 I c) (w20 I c) (w21 I c) v a (Scalar.ofBits .bf16 0x0000#16) (k0_pay16 (F := F) (yW c) a)) rfl (by decide) (Fin.ext (k0_dev11_eq c)) (by decide) (by decide)) $$ [HO Hex2 Har Hps2 Htp2 Hlp2]
  · isplitr; · iexact HI
    isplitr; · iexact Hlev
    isplitl [HO]; · iexact HO
    isplitl [Hex2]; · iexact Hex2
    isplitl [Har]; · iexact Har
    isplitl [Hps2]; · iexact Hps2
    isplitl [Htp2]; · iexact Htp2
    iexact Hlp2
  iintro ⟨HO, Har, Hxr2, Hsp2⟩
  iapply (pStep I κ c 3 [.q 0, .q 1, .q 2, .q 3] (by decide) (fun v a => k0_pay20 (w21 I c) (k0_pay18 (yW c) (w10 I c) (w20 I c) v a) (k0_pay19 (yW c) (w11 I c) v a)) rfl (by decide) (Fin.ext (k0_dev12_eq c)) (by decide) (by decide)) $$ [HO Hex3 Har Hps3 Htp3 Hlp3]
  · isplitr; · iexact HI
    isplitr; · iexact Hlev
    isplitl [HO]; · iexact HO
    isplitl [Hex3]; · iexact Hex3
    isplitl [Har]; · iexact Har
    isplitl [Hps3]; · iexact Hps3
    isplitl [Htp3]; · iexact Htp3
    iexact Hlp3
  iintro ⟨HO, Har, Hxr3, Hsp3⟩
  -- the partial sums that came back
  iapply (qStep I κ c 0 [.q 1, .q 2, .q 3] (by decide) M4 k0_pay21 (fun _ _ => rfl) (by decide) (Fin.ext (k0_dev13_eq c)) (by decide) (by decide)) $$ [HO Hep0 Hownr Hi0 Htq0 Hlq0]
  · isplitr; · iexact HI
    isplitr; · iexact Hlev
    isplitl [HO]; · iexact HO
    isplitl [Hep0]; · iexact Hep0
    isplitl [Hownr]; · iexact Hownr
    isplitl [Hi0]; · iexact Hi0
    isplitl [Htq0]; · iexact Htq0
    iexact Hlq0
  iintro ⟨HO, Hownr, Hi0, Hpr0, Hsq0⟩
  iapply (qStep I κ c 1 [.q 2, .q 3] (by decide) M4 k0_pay22 (fun _ _ => rfl) (by decide) (Fin.ext (k0_dev14_eq c)) (by decide) (by decide)) $$ [HO Hep1 Hownr Hi1 Htq1 Hlq1]
  · isplitr; · iexact HI
    isplitr; · iexact Hlev
    isplitl [HO]; · iexact HO
    isplitl [Hep1]; · iexact Hep1
    isplitl [Hownr]; · iexact Hownr
    isplitl [Hi1]; · iexact Hi1
    isplitl [Htq1]; · iexact Htq1
    iexact Hlq1
  iintro ⟨HO, Hownr, Hi1, Hpr1, Hsq1⟩
  iapply (qStep I κ c 2 [.q 3] (by decide) M4 k0_pay23 (fun _ _ => rfl) (by decide) (Fin.ext (k0_dev15_eq c)) (by decide) (by decide)) $$ [HO Hep2 Hownr Hi2 Htq2 Hlq2]
  · isplitr; · iexact HI
    isplitr; · iexact Hlev
    isplitl [HO]; · iexact HO
    isplitl [Hep2]; · iexact Hep2
    isplitl [Hownr]; · iexact Hownr
    isplitl [Hi2]; · iexact Hi2
    isplitl [Htq2]; · iexact Htq2
    iexact Hlq2
  iintro ⟨HO, Hownr, Hi2, Hpr2, Hsq2⟩
  iapply (qStep I κ c 3 [] (by decide) M4 k0_pay24 (fun _ _ => rfl) (by decide) (Fin.ext (k0_dev16_eq c)) (by decide) (by decide)) $$ [HO Hep3 Hownr Hi3 Htq3 Hlq3]
  · isplitr; · iexact HI
    isplitr; · iexact Hlev
    isplitl [HO]; · iexact HO
    isplitl [Hep3]; · iexact Hep3
    isplitl [Hownr]; · iexact Hownr
    isplitl [Hi3]; · iexact Hi3
    isplitl [Htq3]; · iexact Htq3
    iexact Hlq3
  iintro ⟨HO, Hownr, Hi3, Hpr3, Hsq3⟩
  -- the neighbour's results
  iapply (recv I κ .o c (src := ownM) (dst := ownrM) [] (by decide) rfl (by decide)) $$ [HO Heo]
  · isplitr; · iexact HI
    isplitr; · iexact Hlev
    isplitl [HO]; · iexact HO
    iexact Heo
  iintro ⟨HO, Hor, Hzo⟩
  ihave Hor := (show recvPay I .o c ⊢ has c ownrM fullShare (ownF I (xn c)) from .rfl) $$ Hor
  iapply (rStep I κ c 0 M4 k0_pay25 (fun _ _ => rfl) (by decide)) $$ [HO Heq0 Hor Ho0]
  · isplitr; · iexact HI
    isplitr; · iexact Hlev
    isplitl [HO]; · iexact HO
    isplitl [Heq0]; · iexact Heq0
    isplitl [Hor]; · iexact Hor
    iexact Ho0
  iintro ⟨HO, Hor, Ho0, Hpf0⟩
  iapply (rStep I κ c 1 M4 k0_pay26 (fun _ _ => rfl) (by decide)) $$ [HO Heq1 Hor Ho1]
  · isplitr; · iexact HI
    isplitr; · iexact Hlev
    isplitl [HO]; · iexact HO
    isplitl [Heq1]; · iexact Heq1
    isplitl [Hor]; · iexact Hor
    iexact Ho1
  iintro ⟨HO, Hor, Ho1, Hpf1⟩
  iapply (rStep I κ c 2 M4 k0_pay27 (fun _ _ => rfl) (by decide)) $$ [HO Heq2 Hor Ho2]
  · isplitr; · iexact HI
    isplitr; · iexact Hlev
    isplitl [HO]; · iexact HO
    isplitl [Heq2]; · iexact Heq2
    isplitl [Hor]; · iexact Hor
    iexact Ho2
  iintro ⟨HO, Hor, Ho2, Hpf2⟩
  iapply (rStep I κ c 3 M4 k0_pay28 (fun _ _ => rfl) (by decide)) $$ [HO Heq3 Hor Ho3]
  · isplitr; · iexact HI
    isplitr; · iexact Hlev
    isplitl [HO]; · iexact HO
    isplitl [Heq3]; · iexact Heq3
    isplitl [Hor]; · iexact Hor
    iexact Ho3
  iintro ⟨HO, Hor, Ho3, Hpf3⟩
  -- every copy has left
  iapply (left I κ .a c (src := arM) (dst := asM) (by decide) rfl) $$ [HO Hsa]
  · isplitr; · iexact HI
    isplitl [HO]; · iexact HO
    iexact Hsa
  iintro ⟨HO, Hsa⟩
  iapply (left I κ .o c (src := ownrM) (dst := ownM) (by decide) rfl) $$ [HO Hso]
  · isplitr; · iexact HI
    isplitl [HO]; · iexact HO
    iexact Hso
  iintro ⟨HO, Hso⟩
  iapply (wStep I κ c 0 (by decide) (by decide) (by decide)) $$ [HO Hsx0 Hsp0 Hsq0]
  · isplitr; · iexact HI
    isplitl [HO]; · iexact HO
    isplitl [Hsx0]; · iexact Hsx0
    isplitl [Hsp0]; · iexact Hsp0
    iexact Hsq0
  iintro ⟨HO, HS0⟩
  iapply (wStep I κ c 1 (by decide) (by decide) (by decide)) $$ [HO Hsx1 Hsp1 Hsq1]
  · isplitr; · iexact HI
    isplitl [HO]; · iexact HO
    isplitl [Hsx1]; · iexact Hsx1
    isplitl [Hsp1]; · iexact Hsp1
    iexact Hsq1
  iintro ⟨HO, HS1⟩
  iapply (wStep I κ c 2 (by decide) (by decide) (by decide)) $$ [HO Hsx2 Hsp2 Hsq2]
  · isplitr; · iexact HI
    isplitl [HO]; · iexact HO
    isplitl [Hsx2]; · iexact Hsx2
    isplitl [Hsp2]; · iexact Hsp2
    iexact Hsq2
  iintro ⟨HO, HS2⟩
  iapply (wStep I κ c 3 (by decide) (by decide) (by decide)) $$ [HO Hsx3 Hsp3 Hsq3]
  · isplitr; · iexact HI
    isplitl [HO]; · iexact HO
    isplitl [Hsx3]; · iexact Hsx3
    isplitl [Hsp3]; · iexact Hsp3
    iexact Hsq3
  iintro ⟨HO, HS3⟩
  unfold wpc
  rw [wp_ret]
  imodintro
  iapply Hk
  unfold runPost chunkPost inputs
  isplitl [HO]; · iexact HO
  isplitl [HzB]; · iexact HzB
  isplitl [H0 H1 H2 H3]
  · isplitl [H0]; · iexact H0
    isplitl [H1]; · iexact H1
    isplitl [H2]; · iexact H2
    iexact H3
  isplitl [Hasr Har Hza Hsa]
  · isplitl [Hasr]; · iexact Hasr
    isplitl [Har]; · iexact Har
    isplitl [Hza]; · iexact Hza
    iexact Hsa
  isplitl [Hownr Hor Hzo Hso]
  · isplitl [Hownr]; · iexact Hownr
    isplitl [Hor]; · iexact Hor
    isplitl [Hzo]; · iexact Hzo
    iexact Hso
  isplitl [Hxs]; · iexact Hxs
  isplitl [Hxr0 Hpr0 Hpf0 HS0 Hi0 Ho0]
  · isplitl [Hxr0]; · iexact Hxr0
    isplitl [Hpr0]; · iexact Hpr0
    isplitl [Hpf0]; · iexact Hpf0
    isplitl [HS0]; · iexact HS0
    isplitl [Hi0]; · iexact Hi0
    iexact Ho0
  isplitl [Hxr1 Hpr1 Hpf1 HS1 Hi1 Ho1]
  · isplitl [Hxr1]; · iexact Hxr1
    isplitl [Hpr1]; · iexact Hpr1
    isplitl [Hpf1]; · iexact Hpf1
    isplitl [HS1]; · iexact HS1
    isplitl [Hi1]; · iexact Hi1
    iexact Ho1
  isplitl [Hxr2 Hpr2 Hpf2 HS2 Hi2 Ho2]
  · isplitl [Hxr2]; · iexact Hxr2
    isplitl [Hpr2]; · iexact Hpr2
    isplitl [Hpf2]; · iexact Hpf2
    isplitl [HS2]; · iexact HS2
    isplitl [Hi2]; · iexact Hi2
    iexact Ho2
  isplitl [Hxr3]; · iexact Hxr3
  isplitl [Hpr3]; · iexact Hpr3
  isplitl [Hpf3]; · iexact Hpf3
  isplitl [HS3]; · iexact HS3
  isplitl [Hi3]; · iexact Hi3
  iexact Ho3

end Cert.KernelIdeal.Moe

end
-- ==== Proof.Bufs.lean ====
/-
  The buffers of one device, cut into the chunks the body works on and put together again.
-/
module

public import proofs.«01_k».proof.Proof.Run

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Buffers, cut up and put together -/

section Cut

variable (c : Dev nD)

/-- Two halves of a buffer's share, together. -/
theorem unite {sp : Space} {sh : Shape} {e : EltTy} (M : Memref sig .tc sp sh e) (X : sh.Idx → Elt F e) :
    iprop(has c M hl X ∗ has c M hr X) ⊢ has c M fullShare X :=
  (owns_halves (Val := Elt F) (c : Thread nD τ) M fullShare X).2

/-- A buffer cut into its four chunks. -/
theorem cutC (M : Memref sig .tc .vmem S256x512 .bf16) :
    some (F := F) c M ⊢ iprop(some c (chM M 0) ∗ some c (chM M 1) ∗ some c (chM M 2) ∗ some c (chM M 3)) := by
  iintro ⟨%X, H⟩
  have h := owns_rects (Val := Elt F) (Ix := Unit) (Name := ℕ) (U := UU) (Lvl := ℕ) (c : Thread nD τ) M fullShare ch (fun _ _ => rfl) ch_disj ch_cov X
  rw [sep4] at h
  ihave H' := h $$ H
  icases H' with ⟨H0, H1, H2, H3⟩
  isplitl [H0]; · iexists _; iexact H0
  isplitl [H1]; · iexists _; iexact H1
  isplitl [H2]; · iexists _; iexact H2
  iexists _; iexact H3

/-- The whole of a buffer from its chunks. -/
def glue (Y : Fin 4 → S64x512.Idx → Elt F .bf16) : S256x512.Idx → Elt F .bf16 := fun i =>
  Y ⟨(i 0).val / 64, by have h : (i 0).val < 256 := (i 0).isLt; omega⟩ (fun b => match b with
    | 0 => ⟨(i 0).val % 64, Nat.mod_lt _ (by decide)⟩
    | 1 => ⟨(i 1).val, (i 1).isLt⟩)
theorem glue_at (Y : Fin 4 → S64x512.Idx → Elt F .bf16) (k : Fin 4) : (fun i => glue Y ((ch k).emb i)) = Y k := by
  funext i
  have h0 : (i 0).val < 64 := (i 0).isLt
  have e0 : (((ch k).emb i) 0).val = 64 * k.val + (i 0).val := by show 64 * k.val + 1 * (i 0).val = _; omega
  have e1 : (((ch k).emb i) 1).val = (i 1).val := by show 0 + 1 * (i 1).val = _; omega
  show Y _ _ = Y k i
  congr 1
  · apply Fin.ext; show (((ch k).emb i) 0).val / 64 = _; rw [e0]; omega
  · funext b
    apply Fin.ext
    match b with
    | 0 => show (((ch k).emb i) 0).val % 64 = _; rw [e0]; omega
    | 1 => exact e1

theorem pasteC (M : Memref sig .tc .vmem S256x512 .bf16) (q : PosShare TreeShare) (Y : Fin 4 → S64x512.Idx → Elt F .bf16) :
    iprop(has c (chM M 0) q (Y 0) ∗ has c (chM M 1) q (Y 1) ∗ has c (chM M 2) q (Y 2) ∗ has c (chM M 3) q (Y 3))
      ⊢ has c M q (glue Y) := by
  have h := joinC c M q (glue Y)
  have e (k : Fin 4) : has c (chM M k) q (Y k) = has c (chM M k) q (fun i => glue Y ((ch k).emb i)) :=
    congrArg (has c (chM M k) q) (glue_at Y k).symm
  rw [e 0, e 1, e 2, e 3]
  exact h

/-- The eight chunks of a device's result: four of its own half of the rows, four of the other. -/
abbrev oct : Bool × Fin 4 → Rect S512x512
  | (false, k) => inR c k
  | (true, k) => outR c k
/-- The first row of a chunk. -/
def row : Bool × Fin 4 → ℕ
  | (false, k) => 256 * (c.val / 4) + 64 * k.val
  | (true, k) => 64 * k.val + 256 - 256 * (c.val / 4)

theorem mem_oct (p : Bool × Fin 4) (i : S512x512.Idx) : i ∈ (oct c p).set ↔ row c p ≤ (i 0).val ∧ (i 0).val < row c p + 64 := by
  have h1 : (i 1).val < 512 := (i 1).isLt
  obtain ⟨b, k⟩ := p
  cases b
  · refine Rect.mem_set_unit.trans ?_
    rw [k0_off2_eq c k]
    constructor
    · intro h; exact h 0
    · intro h a
      match a with
      | 0 => exact h
      | 1 => exact ⟨Nat.zero_le _, by show _ < 0 + 512; omega⟩
  · refine Rect.mem_set_unit.trans ?_
    rw [k0_off3_eq c k]
    constructor
    · intro h; exact h 0
    · intro h a
      match a with
      | 0 => exact h
      | 1 => exact ⟨Nat.zero_le _, by show _ < 0 + 512; omega⟩

theorem half_le : c.val / 4 = 0 ∨ c.val / 4 = 1 := by have := c.isLt; simp only [nD] at this; omega

theorem oct_disj (p p' : Bool × Fin 4) (h : p ≠ p') : Disjoint (oct c p).set (oct c p').set := by
  rw [Finset.disjoint_left]
  intro i hi hi'
  rw [mem_oct] at hi hi'
  obtain ⟨b, k⟩ := p
  obtain ⟨b', k'⟩ := p'
  have hk := k.isLt
  have hk' := k'.isLt
  have hc := half_le c
  have hne : b = b' → k.val ≠ k'.val := fun e e' => h (by rw [e, Fin.ext e'])
  cases b <;> cases b' <;> simp only [row] at hi hi' <;> simp at hne <;> omega

theorem oct_cov : (Finset.univ : Finset (Bool × Fin 4)).biUnion (fun p => (oct c p).set) = Finset.univ := by
  ext i
  simp only [Finset.mem_biUnion, Finset.mem_univ, true_and, iff_true]
  have h0 : (i 0).val < 512 := (i 0).isLt
  have hc := half_le c
  by_cases h : (i 0).val / 256 = c.val / 4
  · refine ⟨(false, ⟨(i 0).val % 256 / 64, by omega⟩), (mem_oct c _ i).mpr ?_⟩
    simp only [row]; omega
  · refine ⟨(true, ⟨(i 0).val % 256 / 64, by omega⟩), (mem_oct c _ i).mpr ?_⟩
    simp only [row]; omega

theorem sep8 (Φ : Bool × Fin 4 → sProp 𝕄) : bigSep Finset.univ Φ = iprop(Φ (false, 0) ∗ Φ (false, 1) ∗ Φ (false, 2) ∗ Φ (false, 3)
    ∗ Φ (true, 0) ∗ Φ (true, 1) ∗ Φ (true, 2) ∗ Φ (true, 3)) :=
  bigSep_univ_eq_bigSepL [(false, 0), (false, 1), (false, 2), (false, 3), (true, 0), (true, 1), (true, 2), (true, 3)] (by decide) (by decide) Φ

variable (M4 : Memref sig .tc .vmem S512x512 .bf16)

/-- The result's buffer cut into its eight chunks. -/
theorem cut8 : some (F := F) c M4 ⊢ iprop(some c (M4.slice (inR c 0) fun _ => rfl) ∗ some c (M4.slice (inR c 1) fun _ => rfl)
    ∗ some c (M4.slice (inR c 2) fun _ => rfl) ∗ some c (M4.slice (inR c 3) fun _ => rfl)
    ∗ some c (M4.slice (outR c 0) fun _ => rfl) ∗ some c (M4.slice (outR c 1) fun _ => rfl)
    ∗ some c (M4.slice (outR c 2) fun _ => rfl) ∗ some c (M4.slice (outR c 3) fun _ => rfl)) := by
  iintro ⟨%X, H⟩
  have h := owns_rects (Val := Elt F) (Ix := Unit) (Name := ℕ) (U := UU) (Lvl := ℕ) (c : Thread nD τ) M4 fullShare (oct c)
    (fun p _ => by obtain ⟨b, k⟩ := p; cases b <;> rfl) (oct_disj c) (oct_cov c) X
  rw [sep8] at h
  ihave H' := h $$ H
  icases H' with ⟨H0, H1, H2, H3, H4, H5, H6, H7⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

variable (I : Inp F)

/-- A device's result. -/
def outF : S512x512.Idx → Elt F .bf16 := fun i =>
  let k : Fin 4 := ⟨(i 0).val % 256 / 64, by omega⟩
  let j : S64x512.Idx := fun b => match b with
    | 0 => ⟨(i 0).val % 64, Nat.mod_lt _ (by decide)⟩
    | 1 => ⟨(i 1).val, (i 1).isLt⟩
  if (i 0).val / 256 = c.val / 4 then outN I c k j else outX I c k j

theorem outF_in (k : Fin 4) : (fun i => outF c I ((inR c k).emb i)) = outN I c k := by
  funext i
  have h0 : (i 0).val < 64 := (i 0).isLt
  have hk := k.isLt
  have hc := half_le c
  have e := k0_off2_eq c k
  have e0 : (((inR c k).emb i) 0).val = 256 * (c.val / 4) + 64 * k.val + (i 0).val := by
    show k0_off2 c (BitVec.ofNat 32 (64 * k.val)) 0 + 1 * (i 0).val = _; rw [e, Nat.one_mul]; rfl
  have e1 : (((inR c k).emb i) 1).val = (i 1).val := by
    show k0_off2 c (BitVec.ofNat 32 (64 * k.val)) 1 + 1 * (i 1).val = _; rw [e, Nat.one_mul]; exact Nat.zero_add _
  show (if (((inR c k).emb i) 0).val / 256 = c.val / 4 then outN I c _ _ else outX I c _ _) = _
  rw [if_pos (by rw [e0]; omega)]
  congr 1
  · apply Fin.ext; show (((inR c k).emb i) 0).val % 256 / 64 = _; rw [e0]; omega
  · funext b
    apply Fin.ext
    match b with
    | 0 => show (((inR c k).emb i) 0).val % 64 = _; rw [e0]; omega
    | 1 => exact e1

theorem outF_out (k : Fin 4) : (fun i => outF c I ((outR c k).emb i)) = outX I c k := by
  funext i
  have h0 : (i 0).val < 64 := (i 0).isLt
  have hk := k.isLt
  have hc := half_le c
  have e := k0_off3_eq c k
  have e0 : (((outR c k).emb i) 0).val = 64 * k.val + 256 - 256 * (c.val / 4) + (i 0).val := by
    show k0_off3 c (BitVec.ofNat 32 (64 * k.val)) 0 + 1 * (i 0).val = _; rw [e, Nat.one_mul]; rfl
  have e1 : (((outR c k).emb i) 1).val = (i 1).val := by
    show k0_off3 c (BitVec.ofNat 32 (64 * k.val)) 1 + 1 * (i 1).val = _; rw [e, Nat.one_mul]; exact Nat.zero_add _
  show (if (((outR c k).emb i) 0).val / 256 = c.val / 4 then outN I c _ _ else outX I c _ _) = _
  rw [if_neg (by rw [e0]; omega)]
  congr 1
  · apply Fin.ext; show (((outR c k).emb i) 0).val % 256 / 64 = _; rw [e0]; omega
  · funext b
    apply Fin.ext
    match b with
    | 0 => show (((outR c k).emb i) 0).val % 64 = _; rw [e0]; omega
    | 1 => exact e1

/-- The result's buffer from its eight chunks. -/
theorem paste8 : iprop(has c (M4.slice (inR c 0) fun _ => rfl) fullShare (outN I c 0) ∗ has c (M4.slice (inR c 1) fun _ => rfl) fullShare (outN I c 1)
    ∗ has c (M4.slice (inR c 2) fun _ => rfl) fullShare (outN I c 2) ∗ has c (M4.slice (inR c 3) fun _ => rfl) fullShare (outN I c 3)
    ∗ has c (M4.slice (outR c 0) fun _ => rfl) fullShare (outX I c 0) ∗ has c (M4.slice (outR c 1) fun _ => rfl) fullShare (outX I c 1)
    ∗ has c (M4.slice (outR c 2) fun _ => rfl) fullShare (outX I c 2) ∗ has c (M4.slice (outR c 3) fun _ => rfl) fullShare (outX I c 3))
      ⊢ has c M4 fullShare (outF c I) := by
  have h := owns_of_rects (Val := Elt F) (Ix := Unit) (Name := ℕ) (U := UU) (Lvl := ℕ) (c : Thread nD τ) M4 fullShare (oct c)
    (fun p _ => by obtain ⟨b, k⟩ := p; cases b <;> rfl) (oct_disj c) (oct_cov c) (outF c I)
  rw [sep8] at h
  dsimp only [oct] at h
  rw [outF_in, outF_in, outF_in, outF_in, outF_out, outF_out, outF_out, outF_out] at h
  exact h

end Cut

/-! ## Into the body and out of it -/

/-- A device's scratch buffers, at contents not chosen. -/
def scr (c : Dev nD) : sProp 𝕄 :=
  iprop(some c xsM ∗ some c xrM ∗ some c asM ∗ some c arM ∗ some c ownM ∗ some c ownrM ∗ some c psM ∗ some c presM ∗ some c presfM)

/-- What a device has of one copy when the body begins. -/
def ready (f : Fl) (c : Dev nD) : sProp 𝕄 := iprop(tokS f c ∗ exps f c ∗ reached ER (rcvC f c) 0)
/-- What it has of it when the body is over. -/
def over (f : Fl) (c : Dev nD) : sProp 𝕄 := iprop(semVal (sndC f c) 0 ∗ semVal (rcvC f c) 0)

theorem sepFl (Φ : Fl → sProp 𝕄) : bigSep Finset.univ Φ = iprop(Φ .a ∗ Φ (.x 0) ∗ Φ (.x 1) ∗ Φ (.x 2) ∗ Φ (.x 3) ∗ Φ .o
    ∗ Φ (.p 0) ∗ Φ (.p 1) ∗ Φ (.p 2) ∗ Φ (.p 3) ∗ Φ (.q 0) ∗ Φ (.q 1) ∗ Φ (.q 2) ∗ Φ (.q 3)) :=
  bigSep_univ_eq_bigSepL Fl.all (by decide) (by decide) Φ

variable (I : Inp F) (κ : GSem nD τ sig → ℕ) (c : Dev nD)
  (M0 : Memref sig .tc .vmem S512x512 .bf16) (M1 : Memref sig .tc .vmem S512x1 .i32)
  (M2 : Memref sig .tc .vmem S2x512x1024 .bf16) (M3 : Memref sig .tc .vmem S2x1024x512 .bf16) (M4 : Memref sig .tc .vmem S512x512 .bf16)

theorem enter (W : Waits sig Unit) :
    iprop(invs I κ ∗ levAts L lv ∗ owes (c : Thread nD τ) (due₀ c) W ∗ barPre c ∗ bigSep Finset.univ (fun f => ready f c)
      ∗ scr c ∗ inputs I c M0 M1 M2 M3 ∗ some c M4) ⊢ runPre I κ c M0 M1 M2 M3 M4 W := by
  rw [sepFl]
  unfold ready scr
  iintro ⟨#HI, #Hlev, HO, Hbar, ⟨⟨Hta, Hea, Hra⟩, ⟨Htx0, Hex0, Hrx0⟩, ⟨Htx1, Hex1, Hrx1⟩, ⟨Htx2, Hex2, Hrx2⟩, ⟨Htx3, Hex3, Hrx3⟩, ⟨Hto, Heo, Hro⟩, ⟨Htp0, Hep0, Hrp0⟩, ⟨Htp1, Hep1, Hrp1⟩, ⟨Htp2, Hep2, Hrp2⟩, ⟨Htp3, Hep3, Hrp3⟩, ⟨Htq0, Heq0, Hrq0⟩, ⟨Htq1, Heq1, Hrq1⟩, ⟨Htq2, Heq2, Hrq2⟩, ⟨Htq3, Heq3, Hrq3⟩⟩, ⟨Hxs, Hxr, Has, Har, Hown, Hownr, Hps, Hpr, Hpf⟩, Hin, H4⟩
  ihave Hxs := (cutC (F := F) c xsM) $$ Hxs
  icases Hxs with ⟨Hxs0, Hxs1, Hxs2, Hxs3⟩
  ihave Hxr := (cutC (F := F) c xrM) $$ Hxr
  icases Hxr with ⟨Hxr0, Hxr1, Hxr2, Hxr3⟩
  ihave Hps := (cutC (F := F) c psM) $$ Hps
  icases Hps with ⟨Hps0, Hps1, Hps2, Hps3⟩
  ihave Hpr := (cutC (F := F) c presM) $$ Hpr
  icases Hpr with ⟨Hpr0, Hpr1, Hpr2, Hpr3⟩
  ihave Hpf := (cutC (F := F) c presfM) $$ Hpf
  icases Hpf with ⟨Hpf0, Hpf1, Hpf2, Hpf3⟩
  ihave H4 := (cut8 (F := F) c M4) $$ H4
  icases H4 with ⟨Hi0, Hi1, Hi2, Hi3, Ho0, Ho1, Ho2, Ho3⟩
  unfold runPre chunkPre
  isplitr; · iexact HI
  isplitr; · iexact Hlev
  isplitl [HO]; · iexact HO
  isplitl [Hbar]; · iexact Hbar
  isplitl [Har Hra Hxr0 Hrx0 Hxr1 Hrx1 Hxr2 Hrx2 Hxr3 Hrx3 Hpr0 Hrp0 Hpr1 Hrp1 Hpr2 Hrp2 Hpr3 Hrp3 Hownr Hro Hpf0 Hrq0 Hpf1 Hrq1 Hpf2 Hrq2 Hpf3 Hrq3]
  · isplitl [Har Hra Hxr0 Hrx0 Hxr1 Hrx1 Hxr2 Hrx2 Hxr3 Hrx3 Hpr0 Hrp0 Hpr1 Hrp1 Hpr2 Hrp2 Hpr3 Hrp3]
    · iapply (show iprop(land .a c ∗ land (.x 0) c ∗ land (.x 1) c ∗ land (.x 2) c ∗ land (.x 3) c ∗ land (.p 0) c ∗ land (.p 1) c
        ∗ land (.p 2) c ∗ land (.p 3) c ∗ emp) ⊢ lands (F := F) yFl c from .rfl)
      unfold land place
      isplitl [Har Hra]
      · isplitl [Har]; · iexact Har
        iexact Hra
      isplitl [Hxr0 Hrx0]
      · isplitl [Hxr0]; · iexact Hxr0
        iexact Hrx0
      isplitl [Hxr1 Hrx1]
      · isplitl [Hxr1]; · iexact Hxr1
        iexact Hrx1
      isplitl [Hxr2 Hrx2]
      · isplitl [Hxr2]; · iexact Hxr2
        iexact Hrx2
      isplitl [Hxr3 Hrx3]
      · isplitl [Hxr3]; · iexact Hxr3
        iexact Hrx3
      isplitl [Hpr0 Hrp0]
      · isplitl [Hpr0]; · iexact Hpr0
        iexact Hrp0
      isplitl [Hpr1 Hrp1]
      · isplitl [Hpr1]; · iexact Hpr1
        iexact Hrp1
      isplitl [Hpr2 Hrp2]
      · isplitl [Hpr2]; · iexact Hpr2
        iexact Hrp2
      isplitl [Hpr3 Hrp3]
      · isplitl [Hpr3]; · iexact Hpr3
        iexact Hrp3
      iempintro
    · iapply (show iprop(land .o c ∗ land (.q 0) c ∗ land (.q 1) c ∗ land (.q 2) c ∗ land (.q 3) c ∗ emp) ⊢ lands (F := F) xFl c from .rfl)
      unfold land place
      isplitl [Hownr Hro]
      · isplitl [Hownr]; · iexact Hownr
        iexact Hro
      isplitl [Hpf0 Hrq0]
      · isplitl [Hpf0]; · iexact Hpf0
        iexact Hrq0
      isplitl [Hpf1 Hrq1]
      · isplitl [Hpf1]; · iexact Hpf1
        iexact Hrq1
      isplitl [Hpf2 Hrq2]
      · isplitl [Hpf2]; · iexact Hpf2
        iexact Hrq2
      isplitl [Hpf3 Hrq3]
      · isplitl [Hpf3]; · iexact Hpf3
        iexact Hrq3
      iempintro
  isplitl [Hin]; · iexact Hin
  isplitl [Has Hta Hea]
  · isplitl [Has]; · iexact Has
    isplitl [Hta]; · iexact Hta
    iexact Hea
  isplitl [Hown Hto Heo]
  · isplitl [Hown]; · iexact Hown
    isplitl [Hto]; · iexact Hto
    iexact Heo
  isplitl [Hxs0 Htx0 Hps0 Hex0 Htp0 Hi0 Hep0 Htq0 Ho0 Heq0]
  · isplitl [Hxs0 Htx0]
    · isplitl [Hxs0]; · iexact Hxs0
      iexact Htx0
    isplitl [Hps0 Hex0 Htp0]
    · isplitl [Hps0]; · iexact Hps0
      isplitl [Hex0]; · iexact Hex0
      iexact Htp0
    isplitl [Hi0 Hep0 Htq0]
    · isplitl [Hi0]; · iexact Hi0
      isplitl [Hep0]; · iexact Hep0
      iexact Htq0
    isplitl [Ho0]; · iexact Ho0
    iexact Heq0
  isplitl [Hxs1 Htx1 Hps1 Hex1 Htp1 Hi1 Hep1 Htq1 Ho1 Heq1]
  · isplitl [Hxs1 Htx1]
    · isplitl [Hxs1]; · iexact Hxs1
      iexact Htx1
    isplitl [Hps1 Hex1 Htp1]
    · isplitl [Hps1]; · iexact Hps1
      isplitl [Hex1]; · iexact Hex1
      iexact Htp1
    isplitl [Hi1 Hep1 Htq1]
    · isplitl [Hi1]; · iexact Hi1
      isplitl [Hep1]; · iexact Hep1
      iexact Htq1
    isplitl [Ho1]; · iexact Ho1
    iexact Heq1
  isplitl [Hxs2 Htx2 Hps2 Hex2 Htp2 Hi2 Hep2 Htq2 Ho2 Heq2]
  · isplitl [Hxs2 Htx2]
    · isplitl [Hxs2]; · iexact Hxs2
      iexact Htx2
    isplitl [Hps2 Hex2 Htp2]
    · isplitl [Hps2]; · iexact Hps2
      isplitl [Hex2]; · iexact Hex2
      iexact Htp2
    isplitl [Hi2 Hep2 Htq2]
    · isplitl [Hi2]; · iexact Hi2
      isplitl [Hep2]; · iexact Hep2
      iexact Htq2
    isplitl [Ho2]; · iexact Ho2
    iexact Heq2
  isplitl [Hxs3 Htx3]
  · isplitl [Hxs3]; · iexact Hxs3
    iexact Htx3
  isplitl [Hps3 Hex3 Htp3]
  · isplitl [Hps3]; · iexact Hps3
    isplitl [Hex3]; · iexact Hex3
    iexact Htp3
  isplitl [Hi3 Hep3 Htq3]
  · isplitl [Hi3]; · iexact Hi3
    isplitl [Hep3]; · iexact Hep3
    iexact Htq3
  isplitl [Ho3]; · iexact Ho3
  iexact Heq3

theorem leave : runPost I c M0 M1 M2 M3 M4
    ⊢ iprop(owe c [] ∗ semVal (barC c) 0 ∗ inputs I c M0 M1 M2 M3 ∗ has c M4 fullShare (outF c I)
      ∗ bigSep Finset.univ (fun f => over (F := F) f c) ∗ scr c) := by
  rw [sepFl]
  unfold over scr runPost chunkPost sentPay
  iintro ⟨HO, HzB, Hin, ⟨Hasr, Har, Hza, Hasl, Hya⟩, ⟨Hownr, Hor, Hzo, Hownl, Hyo⟩, Hxs, ⟨⟨Hxr0, Hzx0⟩, ⟨Hpr0, Hzp0⟩, ⟨Hpf0, Hzq0⟩, ⟨⟨Hxl0, Hyx0⟩, ⟨Hps0, Hyp0⟩, ⟨Hpl0, Hyq0⟩⟩, Hi0, Ho0⟩, ⟨⟨Hxr1, Hzx1⟩, ⟨Hpr1, Hzp1⟩, ⟨Hpf1, Hzq1⟩, ⟨⟨Hxl1, Hyx1⟩, ⟨Hps1, Hyp1⟩, ⟨Hpl1, Hyq1⟩⟩, Hi1, Ho1⟩, ⟨⟨Hxr2, Hzx2⟩, ⟨Hpr2, Hzp2⟩, ⟨Hpf2, Hzq2⟩, ⟨⟨Hxl2, Hyx2⟩, ⟨Hps2, Hyp2⟩, ⟨Hpl2, Hyq2⟩⟩, Hi2, Ho2⟩, ⟨⟨Hxr3, Hzx3⟩, ⟨Hpr3, Hzp3⟩, ⟨Hpf3, Hzq3⟩, ⟨⟨Hxl3, Hyx3⟩, ⟨Hps3, Hyp3⟩, ⟨Hpl3, Hyq3⟩⟩, Hi3, Ho3⟩⟩
  ihave Has := (unite c asM _) $$ [Hasl Hasr]
  · isplitl [Hasl]; · iexact Hasl
    iexact Hasr
  ihave Hown := (unite c ownM _) $$ [Hownl Hownr]
  · isplitl [Hownl]; · iexact Hownl
    iexact Hownr
  ihave Hxl := (joinC c xsM hl (xsF I c)) $$ [Hxl0 Hxl1 Hxl2 Hxl3]
  · isplitl [Hxl0]; · iexact Hxl0
    isplitl [Hxl1]; · iexact Hxl1
    isplitl [Hxl2]; · iexact Hxl2
    iexact Hxl3
  ihave Hxs := (unite c xsM _) $$ [Hxl Hxs]
  · isplitl [Hxl]; · iexact Hxl
    iexact Hxs
  ihave Hxr := (pasteC c xrM fullShare (xsC I (yp c))) $$ [Hxr0 Hxr1 Hxr2 Hxr3]
  · isplitl [Hxr0]; · iexact Hxr0
    isplitl [Hxr1]; · iexact Hxr1
    isplitl [Hxr2]; · iexact Hxr2
    iexact Hxr3
  ihave Hps := (pasteC c psM fullShare (psC I c)) $$ [Hps0 Hps1 Hps2 Hps3]
  · isplitl [Hps0]; · iexact Hps0
    isplitl [Hps1]; · iexact Hps1
    isplitl [Hps2]; · iexact Hps2
    iexact Hps3
  ihave Hpl := (pasteC c presM hl (psC I (yp c))) $$ [Hpl0 Hpl1 Hpl2 Hpl3]
  · isplitl [Hpl0]; · iexact Hpl0
    isplitl [Hpl1]; · iexact Hpl1
    isplitl [Hpl2]; · iexact Hpl2
    iexact Hpl3
  ihave Hpr := (pasteC c presM hr (psC I (yp c))) $$ [Hpr0 Hpr1 Hpr2 Hpr3]
  · isplitl [Hpr0]; · iexact Hpr0
    isplitl [Hpr1]; · iexact Hpr1
    isplitl [Hpr2]; · iexact Hpr2
    iexact Hpr3
  ihave Hpr := (unite c presM _) $$ [Hpl Hpr]
  · isplitl [Hpl]; · iexact Hpl
    iexact Hpr
  ihave Hpf := (pasteC c presfM fullShare (psC I (yp (xn c)))) $$ [Hpf0 Hpf1 Hpf2 Hpf3]
  · isplitl [Hpf0]; · iexact Hpf0
    isplitl [Hpf1]; · iexact Hpf1
    isplitl [Hpf2]; · iexact Hpf2
    iexact Hpf3
  ihave H4 := (paste8 c M4 I) $$ [Hi0 Hi1 Hi2 Hi3 Ho0 Ho1 Ho2 Ho3]
  · isplitl [Hi0]; · iexact Hi0
    isplitl [Hi1]; · iexact Hi1
    isplitl [Hi2]; · iexact Hi2
    isplitl [Hi3]; · iexact Hi3
    isplitl [Ho0]; · iexact Ho0
    isplitl [Ho1]; · iexact Ho1
    isplitl [Ho2]; · iexact Ho2
    iexact Ho3
  isplitl [HO]; · iexact HO
  isplitl [HzB]; · iexact HzB
  isplitl [Hin]; · iexact Hin
  isplitl [H4]; · iexact H4
  isplitl [Hya Hza Hyx0 Hzx0 Hyx1 Hzx1 Hyx2 Hzx2 Hyx3 Hzx3 Hyo Hzo Hyp0 Hzp0 Hyp1 Hzp1 Hyp2 Hzp2 Hyp3 Hzp3 Hyq0 Hzq0 Hyq1 Hzq1 Hyq2 Hzq2 Hyq3 Hzq3]
  · isplitl [Hya Hza]
    · isplitl [Hya]; · iexact Hya
      iexact Hza
    isplitl [Hyx0 Hzx0]
    · isplitl [Hyx0]; · iexact Hyx0
      iexact Hzx0
    isplitl [Hyx1 Hzx1]
    · isplitl [Hyx1]; · iexact Hyx1
      iexact Hzx1
    isplitl [Hyx2 Hzx2]
    · isplitl [Hyx2]; · iexact Hyx2
      iexact Hzx2
    isplitl [Hyx3 Hzx3]
    · isplitl [Hyx3]; · iexact Hyx3
      iexact Hzx3
    isplitl [Hyo Hzo]
    · isplitl [Hyo]; · iexact Hyo
      iexact Hzo
    isplitl [Hyp0 Hzp0]
    · isplitl [Hyp0]; · iexact Hyp0
      iexact Hzp0
    isplitl [Hyp1 Hzp1]
    · isplitl [Hyp1]; · iexact Hyp1
      iexact Hzp1
    isplitl [Hyp2 Hzp2]
    · isplitl [Hyp2]; · iexact Hyp2
      iexact Hzp2
    isplitl [Hyp3 Hzp3]
    · isplitl [Hyp3]; · iexact Hyp3
      iexact Hzp3
    isplitl [Hyq0 Hzq0]
    · isplitl [Hyq0]; · iexact Hyq0
      iexact Hzq0
    isplitl [Hyq1 Hzq1]
    · isplitl [Hyq1]; · iexact Hyq1
      iexact Hzq1
    isplitl [Hyq2 Hzq2]
    · isplitl [Hyq2]; · iexact Hyq2
      iexact Hzq2
    isplitl [Hyq3]; · iexact Hyq3
    iexact Hzq3
  isplitl [Hxs]; · iexists _; iexact Hxs
  isplitl [Hxr]; · iexists _; iexact Hxr
  isplitl [Has]; · iexists _; iexact Has
  isplitl [Har]; · iexists _; iexact Har
  isplitl [Hown]; · iexists _; iexact Hown
  isplitl [Hor]; · iexists _; iexact Hor
  isplitl [Hps]; · iexists _; iexact Hps
  isplitl [Hpr]; · iexists _; iexact Hpr
  iexists _; iexact Hpf

end Cert.KernelIdeal.Moe

end
-- ==== Proof.Region.lean ====
/-
  The kernel's one region: what it enters with, what its body makes of it, and what it leaves.
-/
module

public import proofs.«01_k».proof.Proof.Bufs
public import proofs.«01_k».proof.Proof.Gen.KernelIdeal.Frame
public import Idealize.ShloMosaic.Lib.Pipeline.RegionTalk

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The memory at the region's entry -/

/-- The four inputs as the region finds them. -/
def inp : Inp F where
  x c := V m c main_arg0
  a c := V m c main_v1
  w1 c := V m c main_arg2
  w2 c := V m c main_arg3

/-- A device's buffers before the host operation, before the region, and after it. -/
abbrev V₀ (c : Dev nD) : Valuation τ sig (Elt F) := fun b => m (c, b)
abbrev V₁ (c : Dev nD) : Valuation τ sig (Elt F) := StableHlo.after hostOps0 (V₀ m c)
def V₂ (c : Dev nD) : Valuation τ sig (Elt F) :=
  Function.update (V₁ m c) (Proc.devRef .tc main_v2) (outF c (inp m))

theorem V₂_out (c : Dev nD) : V₂ m c (Proc.devRef .tc main_v2) = outF c (inp m) := Function.update_self _ _ _
theorem V₂_ne (c : Dev nD) (b : Ref sig .tc) (h : b ≠ main_v2) : V₂ m c (Proc.devRef .tc b) = V₁ m c (Proc.devRef .tc b) :=
  Function.update_of_ne (StableHlo.devRef_ne_of_ne h) _ _

/-! ## The windows: each is its whole array -/

theorem iblk_0 (c : Dev nD) (t : Fin cfg0.N) : iblk m c 0 t = (inp m).x c := by
  funext i
  show V m c main_arg0 (((cfg0.win 0).blk t).view.emb i) = V m c main_arg0 i
  refine congrArg _ (funext fun a => Fin.ext ?_)
  show 0 * (S512x512.size a) + 1 * (i a).val = (i a).val
  omega
theorem iblk_1 (c : Dev nD) (t : Fin cfg0.N) : iblk m c 1 t = (inp m).a c := by
  funext i
  show V m c main_v1 (((cfg0.win 1).blk t).view.emb i) = V m c main_v1 i
  refine congrArg _ (funext fun a => Fin.ext ?_)
  show 0 * (S512x1.size a) + 1 * (i a).val = (i a).val
  omega
theorem iblk_2 (c : Dev nD) (t : Fin cfg0.N) : iblk m c 2 t = (inp m).w1 c := by
  funext i
  show V m c main_arg2 (((cfg0.win 2).blk t).view.emb i) = V m c main_arg2 i
  refine congrArg _ (funext fun a => Fin.ext ?_)
  show 0 * (S2x512x1024.size a) + 1 * (i a).val = (i a).val
  omega
theorem iblk_3 (c : Dev nD) (t : Fin cfg0.N) : iblk m c 3 t = (inp m).w2 c := by
  funext i
  show V m c main_arg3 (((cfg0.win 3).blk t).view.emb i) = V m c main_arg3 i
  refine congrArg _ (funext fun a => Fin.ext ?_)
  show 0 * (S2x1024x512.size a) + 1 * (i a).val = (i a).val
  omega
theorem emb_4 (t : Fin cfg0.N) (i : S512x512.Idx) : ((cfg0.win 4).blk t).view.emb i = i := by
  refine funext fun a => Fin.ext ?_
  show 0 * (S512x512.size a) + 1 * (i a).val = (i a).val
  omega

/-! ## The region's own semaphores -/

/-- Each copy's two semaphores: the one it leaves by and the one it lands by. -/
def osem (k : Fl × Bool) : SemLoc sig := if k.2 then .dma (rS k.1) else .dma (sS k.1)

theorem osem_facts : Pipeline.OwnSemFacts spec0 osem := by decide

theorem sepBool (Φ : Bool → sProp 𝕄) : bigSep Finset.univ Φ = iprop(Φ false ∗ Φ true) := by
  rw [show (Finset.univ : Finset Bool) = {false, true} from by decide, bigSep_insert (by decide), bigSep_singleton]
  rfl

theorem ownSems_eq (c : Dev nD) : (Pipeline.ownSems0 osem c : sProp 𝕄) = bigSep Finset.univ (fun f => over f c) := by
  show bigSep Finset.univ (fun k : Fl × Bool => (semVal ((c : Thread nD τ), osem k) 0 : sProp 𝕄)) = _
  rw [bigSep_univ_prod]
  exact bigSep_congr fun f _ => by rw [sepBool]; rfl

/-! ## From the launch to the region -/

/-- What a device has of one copy before its cells are open. -/
def pend (f : Fl) (c : Dev nD) : sProp 𝕄 :=
  iprop(dutyTok ER (sndC f c) 0 false ∗ dutyTok ER (rcvC f (dest f c)) 0 false ∗ openTok ER (sndC f c) ∗ openTok ER (rcvC f c)
    ∗ cred (tallyAt (rcvC f c) () (amt f)))

def Tk (c : Dev nD) : sProp 𝕄 :=
  iprop(∃ κ, invs (inp m) κ ∗ barPre c ∗ bigSep Finset.univ (fun f => pend f c))
def Xk (c : Dev nD) : sProp 𝕄 :=
  iprop(∃ κ, invs (inp m) κ ∗ levAts L lv ∗ barPre c ∗ bigSep Finset.univ (fun f => ready f c))
def Yk (c : Dev nD) : sProp 𝕄 := semVal (barC c) 0

/-- A copy's two cells, opened. -/
theorem open_one (κ : GSem nD τ sig → ℕ) (f : Fl) (c : Dev nD) :
    iprop(invs (inp m) κ ∗ (pend f c ∗ over f c)) ⊢ (|={Set.univ}=> ready f c : sProp 𝕄) := by
  unfold pend over ready tokS exps
  iintro ⟨#HI, ⟨HtS, HtR, HoS, HoR, Hc⟩, Hs0, Hr0⟩
  imod (Rounds.cell_open ER (rd (inp m)) (g := sndC f c) (Set.mem_univ (κ (sndC f c)))) $$ [HoS Hs0] with ⟨HaS, #HrS⟩
  · isplitr; · iapply (invs_snd (inp m) κ f c) $$ HI
    isplitl [HoS] <;> iassumption
  imod (Rounds.cell_open ER (rd (inp m)) (g := rcvC f c) (Set.mem_univ (κ (rcvC f c)))) $$ [HoR Hr0] with ⟨HaR, #HrR⟩
  · isplitr; · iapply (invs_rcv (inp m) κ f c) $$ HI
    isplitl [HoR] <;> iassumption
  imodintro
  isplitl [HtS HtR HaS]
  · isplitl [HtS]; · iexact HtS
    isplitl [HtR]; · iexact HtR
    isplitr; · iexact HrS
    iexact HaS
  isplitl [Hc HaR]
  · isplitl [Hc] <;> iassumption
  iexact HrR

theorem open_all (κ : GSem nD τ sig → ℕ) (c : Dev nD) :
    iprop(invs (inp m) κ ∗ bigSep Finset.univ (fun f => iprop(pend f c ∗ over f c)))
      ⊢ (|={Set.univ}=> bigSep Finset.univ (fun f => ready f c) : sProp 𝕄) :=
  (bigSep_with_persistent (R := invs (inp m) κ) (Φ := fun f => iprop(pend f c ∗ over f c))
    (Ψ := fun f => iprop(|={Set.univ}=> ready f c)) fun f _ => open_one m κ f c).trans
    (bigSep_fupd _ _)

theorem hopen (c : Dev nD) : iprop(Tk m c ∗ Pipeline.ownSems0 osem c ∗ levAts L lv) ⊢ (|={Set.univ}=> Xk m c : sProp 𝕄) := by
  rw [ownSems_eq]
  unfold Tk Xk
  iintro ⟨⟨%κ, #HI, Hb, Hp⟩, Ho, #Hlev⟩
  imod (open_all m κ c) $$ [Hp Ho] with Hr
  · isplitr; · iexact HI
    rw [bigSep_sep']
    isplitl [Hp] <;> iassumption
  imodintro
  iexists κ
  isplitr; · iexact HI
  isplitr; · iexact Hlev
  isplitl [Hb] <;> iassumption

/-! ## The proof data and the body -/

def dat (c : Dev nD) : Pipeline.Dat τ (Elt F) Unit ℕ UU ℕ cfg0 c where
  A w := V m c (Pipeline.arrRef spec0 w)
  after := fun
    | 0 => iblk m c 0
    | 1 => iblk m c 1
    | 2 => iblk m c 2
    | 3 => iblk m c 3
    | 4 => fun _ => outF c (inp m)
    | ⟨_ + 5, h⟩ => absurd h (Nat.not_lt.2 (Nat.le_add_left _ _))
  Φ t := if t.val = 0 then iprop(Xk m c ∗ scr c ∗ ∃ r, prngReg c r)
    else iprop(Yk c ∗ bigSep Finset.univ (fun f => over f c) ∗ scr c ∗ ∃ r, prngReg c r)
  q _ := fullShare
  owed t := if t.val = 0 then due₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c :=
  fun _ => dat m

theorem before_0 (c : Dev nD) (t : Fin cfg0.N) (d) : (dat m c).before 0 t d = iblk m c 0 t :=
  ((dat m c).before_in_eq_fetched 0 rfl (fun _ => rfl) (fun _ _ _ => rfl) (fun t => rfl) t d).trans rfl
theorem before_1 (c : Dev nD) (t : Fin cfg0.N) (d) : (dat m c).before 1 t d = iblk m c 1 t :=
  ((dat m c).before_in_eq_fetched 1 rfl (fun _ => rfl) (fun _ _ _ => rfl) (fun t => rfl) t d).trans rfl
theorem before_2 (c : Dev nD) (t : Fin cfg0.N) (d) : (dat m c).before 2 t d = iblk m c 2 t :=
  ((dat m c).before_in_eq_fetched 2 rfl (fun _ => rfl) (fun _ _ _ => rfl) (fun t => rfl) t d).trans rfl
theorem before_3 (c : Dev nD) (t : Fin cfg0.N) (d) : (dat m c).before 3 t d = iblk m c 3 t :=
  ((dat m c).before_in_eq_fetched 3 rfl (fun _ => rfl) (fun _ _ _ => rfl) (fun t => rfl) t d).trans rfl

theorem owed_zero (c : Dev nD) : (pdats (F := F) m 0 c).owed 0 = due₀ c := by
  show (if ((0 : Fin (cfg0.N + 1)).val = 0) then due₀ c else 0) = due₀ c; exact if_pos rfl
theorem owed_first (c : Dev nD) : (dat (F := F) m c).owed (Fin.castSucc t0_0) = due₀ c := by
  show (if (Fin.castSucc t0_0).val = 0 then due₀ c else 0) = due₀ c; exact if_pos rfl
theorem owed_last (c : Dev nD) : (pdats (F := F) m 0 c).owed (Fin.last _) = 0 := by
  show (if (Fin.last cfg0.N).val = 0 then due₀ c else 0) = 0
  rw [Fin.val_last, if_neg (by rw [show cfg0.N = 1 from N_0]; decide)]
theorem owed_succ (c : Dev nD) : (dat (F := F) m c).owed (Fin.succ t0_0) = 0 := by
  show (if (Fin.succ t0_0).val = 0 then due₀ c else 0) = 0
  exact if_neg (Nat.succ_ne_zero _)

def phiIn (c : Dev nD) : sProp 𝕄 := iprop(Xk m c ∗ scr c ∗ ∃ r, prngReg c r)
def phiOut (c : Dev nD) : sProp 𝕄 := iprop(Yk c ∗ bigSep Finset.univ (fun f => over f c) ∗ scr c ∗ ∃ r, prngReg c r)
theorem phi_zero (c : Dev nD) : (pdats m 0 c).Φ 0 = phiIn m c := by
  show (if (0 : Fin (cfg0.N + 1)).val = 0 then phiIn m c else phiOut c) = _; exact if_pos rfl
theorem phi_first (c : Dev nD) : (dat m c).Φ (Fin.castSucc t0_0) = phiIn m c := by
  show (if (Fin.castSucc t0_0).val = 0 then phiIn m c else phiOut c) = _; exact if_pos rfl
theorem phi_succ (c : Dev nD) : (dat m c).Φ (Fin.succ t0_0) = phiOut c := by
  show (if (Fin.succ t0_0).val = 0 then phiIn m c else phiOut c) = _; exact if_neg (Nat.succ_ne_zero _)
theorem phi_last (c : Dev nD) : (pdats m 0 c).Φ (Fin.last _) = phiOut c := by
  show (if (Fin.last cfg0.N).val = 0 then phiIn m c else phiOut c) = _
  rw [Fin.val_last, if_neg (by rw [show cfg0.N = 1 from N_0]; decide)]

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem body (c : Dev nD) : BodyObligation (dat (F := F) m c) defs₀ 𝒱₀ () Set.univ := fun t => by
  obtain rfl := fin_N0 t
  rw [bigSep_W0, bigSep_W0]
  rw [phi_first, phi_succ]
  show iprop((Xk m c ∗ scr c ∗ ∃ r, prngReg c r) ∗ (dat m c).owesAt () (Fin.castSucc t0_0)
      ∗ (∃ d, owns c (st0_0 t0_0) fullShare ((dat m c).before 0 t0_0 d)) ∗ (∃ d, owns c (st0_1 t0_0) fullShare ((dat m c).before 1 t0_0 d))
      ∗ (∃ d, owns c (st0_2 t0_0) fullShare ((dat m c).before 2 t0_0 d)) ∗ (∃ d, owns c (st0_3 t0_0) fullShare ((dat m c).before 3 t0_0 d))
      ∗ (∃ d, owns c (st0_4 t0_0) fullShare ((dat m c).before 4 t0_0 d)))
    ⊢ wpc c (bodyAt0 (F := F) t0_0) fun _ => iprop((Yk c ∗ bigSep Finset.univ (fun f => over f c) ∗ scr c ∗ ∃ r, prngReg c r)
      ∗ (dat m c).owesAt () (Fin.succ t0_0)
      ∗ owns c (st0_0 t0_0) fullShare (iblk m c 0 t0_0) ∗ owns c (st0_1 t0_0) fullShare (iblk m c 1 t0_0)
      ∗ owns c (st0_2 t0_0) fullShare (iblk m c 2 t0_0) ∗ owns c (st0_3 t0_0) fullShare (iblk m c 3 t0_0)
      ∗ owns c (st0_4 t0_0) fullShare (outF c (inp m)))
  simp only [before_0, before_1, before_2, before_3, iblk_0, iblk_1, iblk_2, iblk_3]
  unfold Xk
  iintro ⟨⟨⟨%κ, HI, Hlev, Hb, Hr⟩, Hs, Hp⟩, HO, ⟨%d0, H0⟩, ⟨%d1, H1⟩, ⟨%d2, H2⟩, ⟨%d3, H3⟩, ⟨%d4, H4⟩⟩
  ihave HO' := (owesAt_elim m c _ (due₀ c) (owed_first m c)) $$ HO
  icases HO' with ⟨%W, HO⟩
  iapply (run (inp m) κ c (st0_0 t0_0) (hstage0_0 0) (st0_1 t0_0) (hstage0_1 0) (st0_2 t0_0) (hstage0_2 0) (st0_3 t0_0) (hstage0_3 0)
    (st0_4 t0_0) (hstage0_4 0) W _)
  isplitr [Hp]
  · iapply (enter (inp m) κ c (st0_0 t0_0) (st0_1 t0_0) (st0_2 t0_0) (st0_3 t0_0) (st0_4 t0_0) W)
    isplitl [HI]; · iexact HI
    isplitl [Hlev]; · iexact Hlev
    isplitl [HO]; · iexact HO
    isplitl [Hb]; · iexact Hb
    isplitl [Hr]; · iexact Hr
    isplitl [Hs]; · iexact Hs
    isplitr [H4]
    · unfold inputs
      isplitl [H0]; · iexact H0
      isplitl [H1]; · iexact H1
      isplitl [H2] <;> iassumption
    iexists _; iexact H4
  iintro Hpost
  ihave Hpost := (leave (inp m) c (st0_0 t0_0) (st0_1 t0_0) (st0_2 t0_0) (st0_3 t0_0) (st0_4 t0_0)) $$ Hpost
  unfold owe inputs
  icases Hpost with ⟨⟨%W', HO⟩, Hb0, ⟨H0, H1, H2, H3⟩, H4, Hov, Hs⟩
  isplitl [Hb0 Hov Hs Hp]
  · isplitl [Hb0]; · unfold Yk; iexact Hb0
    isplitl [Hov]; · iexact Hov
    isplitl [Hs] <;> iassumption
  isplitl [HO]; · iapply (owesAt_intro m c (Fin.succ t0_0) 0 (owed_succ m c) W'); iexact HO
  isplitl [H0]; · iexact H0
  isplitl [H1]; · iexact H1
  isplitl [H2]; · iexact H2
  isplitl [H3] <;> iassumption

end Cert.KernelIdeal.Moe

end
-- ==== Proof.Talk.lean ====
/-
  The kernel's run: its host operation, its region, and the launch that deals every device its part.
-/
module

public import proofs.«01_k».proof.Proof.Region

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The region -/

abbrev arrs : Finset (DevRef τ sig) := Pipeline.arrRefs (τ := τ) spec0
abbrev ucs : Finset (DevRef τ sig) := Pipeline.ucRefs τ sig
/-- The buffers no window is on. -/
abbrev rest : Finset (DevRef τ sig) := ucs \ arrs

theorem arrs_sub : arrs ⊆ ucs := by decide

theorem some_whole (c : Dev nD) (b : Ref sig .tc) :
    (iprop(∃ X, owns (c : Thread nD τ) (Memref.whole b) fullShare X) : sProp 𝕄) = iprop(∃ f, (c : Thread nD τ).loc b ↦{fullShare} f) :=
  congrArg _ (funext fun f => owns_whole (c : Thread nD τ) b fullShare f)

theorem scr_eq (c : Dev nD) : (Pipeline.scopedRest (Ix := Unit) (Name := ℕ) (U := UU) (Lvl := ℕ) (Val := Elt F) spec0 c : sProp 𝕄) = scr c := by
  rw [scopedRest0_eq]
  unfold scr
  exact congrArg₂ BIBase.sep (some_whole c cc0_scratch0).symm (congrArg₂ BIBase.sep (some_whole c cc0_scratch1).symm (congrArg₂ BIBase.sep (some_whole c cc0_scratch2).symm (congrArg₂ BIBase.sep (some_whole c cc0_scratch3).symm (congrArg₂ BIBase.sep (some_whole c cc0_scratch4).symm (congrArg₂ BIBase.sep (some_whole c cc0_scratch5).symm (congrArg₂ BIBase.sep (some_whole c cc0_scratch6).symm (congrArg₂ BIBase.sep (some_whole c cc0_scratch7).symm (some_whole c cc0_scratch8).symm)))))))

theorem held_none (c : Dev nD) (W : Valuation τ sig (Elt F)) : (StableHlo.held (c.tc : Thread nD τ) ∅ W : sProp 𝕄) = BI.emp := by
  unfold StableHlo.held
  exact BI.bigSep_empty

theorem kitP : Pipeline.PLaunchFacts (nD := nD) (τ := τ) (pcfgs (F := F)) 0 := launch0.toP

theorem cutD (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then due₀ c else 0 := rfl
  rw [e] at h
  split at h
  · have h' : 0 < due c Fl.all g i + tallyAt (barC (xn c)) () 1 g i + tallyAt (barC (yp c)) () 1 g i := h
    have hb (d : Dev nD) (hp : 0 < tallyAt (barC d) () 1 g i) : i ∈ L g ∧ (0 : ℕ) < lv g i := by
      rw [tallyAt_apply] at hp
      split at hp
      · next hg =>
        rw [hg.1]
        exact ⟨by rw [L_tc]; exact Finset.mem_singleton_self _, by show 0 < rank (use (.reg barS)); rw [use_bar]; decide⟩
      · exact absurd hp (Nat.lt_irrefl 0)
    rcases Nat.add_pos_iff_pos_or_pos.mp h' with h' | h'
    · rcases Nat.add_pos_iff_pos_or_pos.mp h' with h' | h'
      · obtain ⟨f, -, rfl⟩ := due_pos c g i _ h'
        refine ⟨by rw [L_tc]; exact Finset.mem_singleton_self _, ?_⟩
        show 0 < rank (use (.dma (rS f)))
        rw [use_rcv]
        cases f <;> exact Nat.succ_pos _
      · exact hb _ h'
    · exact hb _ h'
  · exact absurd h (Nat.lt_irrefl 0)

theorem stage_use : ∀ (w : Fin 5) (s : Fin (spec0 w).nbuf), use (.dma ((spec0 w).sem s)) = .no := by decide

theorem hin (c : Dev nD) : iprop(Pipeline.scopedRest (Pipeline.pin (pcfgs (F := F)) adm 0).spec c ∗ (∃ r, prngReg c r)
    ∗ StableHlo.held (c.tc : Thread nD τ) ∅ (V₁ m c) ∗ Xk m c) ⊢ (pdats m 0 c).Φ 0 := by
  rw [phi_zero, held_none, show (Pipeline.scopedRest (Pipeline.pin (pcfgs (F := F)) adm 0).spec c : sProp 𝕄) = scr c from scr_eq c]
  unfold phiIn
  iintro ⟨Hs, Hp, -, Hx⟩
  isplitl [Hx]; · iexact Hx
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last (Pipeline.pin (pcfgs (F := F)) adm 0).N) = phiOut c from phi_last m c, held_none,
    show (Pipeline.scopedRest (Pipeline.pin (pcfgs (F := F)) adm 0).spec c : sProp 𝕄) = scr c from scr_eq c, ownSems_eq]
  unfold phiOut
  iintro ⟨Hy, Ho, Hs, Hp⟩
  isplitl [Hs]; · iexact Hs
  isplitl [Hp]; · iexact Hp
  isplitr; · iempintro
  isplitl [Ho] <;> iassumption

theorem share_full (c : Dev nD) (w : Fin cfg0.W) : (dat m c).share w = fullShare := by
  unfold Dat.share; split <;> rfl

/-- The arrays when the region is left. -/
theorem arr_out (c : Dev nD) (w : Fin cfg0.W) :
    (dat m c).arrAt w cfg0.N = V₂ m c (Proc.devRef .tc (Pipeline.arrRef spec0 w)) := by
  match w with
  | 0 => exact ((dat m c).arrAt_in 0 rfl _).trans (V₂_ne m c main_arg0 (by decide)).symm
  | 1 => exact ((dat m c).arrAt_in 1 rfl _).trans (V₂_ne m c main_v1 (by decide)).symm
  | 2 => exact ((dat m c).arrAt_in 2 rfl _).trans (V₂_ne m c main_arg2 (by decide)).symm
  | 3 => exact ((dat m c).arrAt_in 3 rfl _).trans (V₂_ne m c main_arg3 (by decide)).symm
  | 4 =>
    refine Eq.trans ?_ (V₂_out m c).symm
    refine (dat m c).arrAt_eq_of_cover 4 (outF c (inp m)) (fun t _ => ?_) fun i => ⟨t0_0, flush0_4 _, ?_⟩
    · funext i
      show outF c (inp m) i = outF c (inp m) (((cfg0.win 4).blk t).view.emb i)
      rw [emb_4]
    · have h := ((cfg0.win 4).blk t0_0).view.emb_mem_set i
      rwa [emb_4] at h

theorem rest_same (c : Dev nD) : ∀ b ∈ rest \ ∅, V₂ m c b = V₁ m c b := by
  intro b hb
  rw [Finset.sdiff_empty] at hb
  refine Function.update_of_ne (fun h => ?_) _ _
  subst h
  revert hb
  decide

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
def reg : ℝ𝕊 0 :=
  Pipeline.RegionSeg.ofTalk (pcfgs (F := F)) adm (pdats m) () defs₀ 𝒱₀ L lv 0 osem osem_facts
    ∅ rest (Finset.empty_subset _) kitP rfl (fun c => (body m c).loose)
    (fun _ => 0) due₀ (fun c => (owed_zero m c).trans (zero_add _).symm) (owed_last m) (fun _ => rfl) (share_full m)
    (V₁ m) (V₂ m) (rest_same m)
    (Tk m) Yk (Xk m) Yk (hopen m) (hin m) (hout m)
    (fun c => by iintro H; imodintro; iexact H)
    (fun _ => 0)
    ⟨fun c w s => by rw [L_tc]; exact Finset.mem_singleton_self _,
      fun c w s => by
        show rank (use (.dma ((spec0 w).sem s))) ≤ 0
        rw [stage_use]; exact le_rfl,
      fun c t g i h => cutD m c t g i h⟩
    (fun _ => iprop(emp))
    (fun _ _ => rfl) (arr_out m)

/-- What rides beside the buffers up to the region. -/
def R (c : Dev nD) : sProp 𝕄 := iprop(Tk m c ∗ (∃ r, prngReg c r) ∗ ∃ W, owes (c : Thread nD τ) (due₀ c) W)

theorem held_ucs (c : Dev nD) (W : Valuation τ sig (Elt F)) : (StableHlo.held (c : Thread nD τ) ucs W : sProp 𝕄)
    = iprop(StableHlo.held (c.tc : Thread nD τ) arrs W ∗ StableHlo.held (c.tc : Thread nD τ) rest W) :=
  StableHlo.held_sub_split (c.tc : Thread nD τ) arrs_sub W

theorem reg_pre (c : Dev nD) : iprop(StableHlo.held (c : Thread nD τ) ucs (V₁ m c) ∗ R m c) ⊢ (reg m).pre c := by
  show _ ⊢ iprop(StableHlo.held (c.tc : Thread nD τ) arrs (V₁ m c) ∗ (∃ r, prngReg c r)
    ∗ (StableHlo.held (c.tc : Thread nD τ) rest (V₁ m c) ∗ emp) ∗ Tk m c ∗ ∃ Wd, owes (c : Thread nD τ) (0 + due₀ c) Wd)
  rw [held_ucs, zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- What a device ends with. -/
abbrev Tₙ (c : Dev nD) : sProp 𝕄 := iprop(StableHlo.held (c : Thread nD τ) ucs (V₂ m c) ∗ semVal (barC c) 0)

theorem reg_post (c : Dev nD) : (reg m).post c
    ⊢ iprop(Tₙ m c ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) rest (V₂ m c) ∗ emp) ∗ Yk c ∗ ∃ Wd, owes (c : Thread nD τ) (0 : CellTallies nD τ sig Unit) Wd) ⊢ _
  unfold Tₙ
  rw [held_ucs]
  unfold Yk
  iintro ⟨Ha, -, ⟨Hr, -⟩, Hb, HO⟩
  isplitr [HO]
  · isplitl [Ha Hr]; · isplitl [Ha] <;> iassumption
    iexact Hb
  iexact HO

def seg : ℍ :=
  Pipeline.HostSeg.ofOps _ _ _ _ _ ucs hostOps0
    (fun op h => Pipeline.sub_ucRefs op (List.forall_iff_forall_mem.mp hostOps0_sub op h))
    (fun op h => List.forall_iff_forall_mem.mp hostOps0_fresh op h) (V₀ m) (R m)

end Cert.KernelIdeal.Moe

end
-- ==== Proof.Deal.lean ====
/-
  The launch: every cell's invariant made, every device given its part, and the run.
-/
module

public import proofs.«01_k».proof.Proof.Talk

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

theorem osem_inj : Function.Injective osem := osem_facts.inj
theorem osem_ne_bar : ∀ k : Fl × Bool, osem k ≠ .reg barS := by decide

def barEmb : Dev nD ↪ GSem nD τ sig := ⟨fun c => barC c, fun _ _ h => congrArg (fun g : GSem nD τ sig => g.1.1) h⟩
def copyEmb : Dev nD × (Fl × Bool) ↪ GSem nD τ sig :=
  ⟨fun p => ((p.1 : Thread nD τ), osem p.2), fun _ _ h =>
    Prod.ext (congrArg (fun g : GSem nD τ sig => g.1.1) h) (osem_inj (congrArg Prod.snd h))⟩
abbrev barCells : Finset (GSem nD τ sig) := Finset.univ.map barEmb
abbrev copyCells : Finset (GSem nD τ sig) := Finset.univ.map copyEmb

theorem disjoint_cells : Disjoint (barCells : Finset (GSem nD τ sig)) copyCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

def barTokEmb : Dev nD × Bool ↪ GSem nD τ sig × ℕ × Bool :=
  ⟨fun p => (barC p.1, 0, p.2), fun _ _ h =>
    Prod.ext (congrArg (fun t : GSem nD τ sig × ℕ × Bool => t.1.1.1) h) (congrArg (fun t : GSem nD τ sig × ℕ × Bool => t.2.2) h)⟩
def copyTokEmb : Dev nD × (Fl × Bool) ↪ GSem nD τ sig × ℕ × Bool :=
  ⟨fun p => (copyEmb p, 0, false), fun _ _ h => copyEmb.injective (congrArg Prod.fst h)⟩
abbrev barToks : Finset (GSem nD τ sig × ℕ × Bool) := Finset.univ.map barTokEmb
abbrev copyToks : Finset (GSem nD τ sig × ℕ × Bool) := Finset.univ.map copyTokEmb

theorem disjoint_toks : Disjoint (barToks : Finset (GSem nD τ sig × ℕ × Bool)) copyToks := by
  rw [Finset.disjoint_left]
  rintro g h₁ h₂
  obtain ⟨c, -, rfl⟩ := Finset.mem_map.mp h₁
  obtain ⟨p, -, h⟩ := Finset.mem_map.mp h₂
  exact osem_ne_bar p.2 (congrArg (fun t : GSem nD τ sig × ℕ × Bool => t.1.2) h)

abbrev toks : Finset (GSem nD τ sig × ℕ × Bool) := barToks ∪ copyToks

/-! ## Regrouping -/

/-- A resource of every copy of every device, grouped by device or not. -/
theorem flat (Φ : Fl → Dev nD → sProp 𝕄) :
    bigSep Finset.univ (fun c => bigSep Finset.univ fun f => Φ f c) = bigSep Finset.univ fun p : Fl × Dev nD => Φ p.1 p.2 := by
  rw [bigSep_univ_prod]; exact bigSep_univ_comm _

/-- Both cells of every copy of every device. -/
theorem by_copy (Φ : GSem nD τ sig → sProp 𝕄) :
    bigSep copyCells Φ = bigSep Finset.univ fun c : Dev nD => bigSep Finset.univ fun f : Fl => iprop(Φ (sndC f c) ∗ Φ (rcvC f c)) := by
  rw [bigSep_map, bigSep_univ_prod]
  refine bigSep_congr fun c _ => ?_
  rw [bigSep_univ_prod]
  exact bigSep_congr fun f _ => by rw [sepBool]; rfl

def ypE : Dev nD ≃ Dev nD := ⟨yp, yp, yp_yp, yp_yp⟩
def xnE : Dev nD ≃ Dev nD := ⟨xn, xn, xn_xn, xn_xn⟩
def destE (f : Fl) : Dev nD ≃ Dev nD := ⟨dest f, dest f, dest_dest f, dest_dest f⟩

/-- A resource of every copy at the device it lands on, given to the device that sends it. -/
theorem across (Φ : Fl → Dev nD → sProp 𝕄) :
    bigSep Finset.univ (fun c => bigSep Finset.univ fun f => Φ f c)
      = bigSep Finset.univ (fun c => bigSep Finset.univ fun f => Φ f (dest f c)) := by
  rw [bigSep_univ_comm, bigSep_univ_comm (fun c f => Φ f (dest f c))]
  exact bigSep_congr fun f _ => bigSep_univ_equiv (destE f) (Φ f)

/-! ## What each device is given -/

/-- The tokens a device pays its copies with. -/
def pays (c : Dev nD) : sProp 𝕄 :=
  bigSep Finset.univ fun f => iprop(dutyTok ER (sndC f c) 0 false ∗ dutyTok ER (rcvC f (dest f c)) 0 false)
/-- Its rights to open its cells. -/
def opens (c : Dev nD) : sProp 𝕄 := bigSep Finset.univ fun f => iprop(openTok ER (sndC f c) ∗ openTok ER (rcvC f c))
/-- The tokens it pays its signals with. -/
def signs (c : Dev nD) : sProp 𝕄 := iprop(dutyTok ER (barC (yp c)) 0 false ∗ dutyTok ER (barC (xn c)) 0 true)

def linear (c : Dev nD) : sProp 𝕄 := iprop(atPos ER (barC c) 0 ∅ 0 ∗ opens c ∗ signs c ∗ pays c)

theorem toks_deal : bigSep toks (fun x => (dutyTok ER x.1 x.2.1 x.2.2 : sProp 𝕄))
    = bigSep Finset.univ fun c : Dev nD => iprop(signs c ∗ pays c) := by
  rw [BI.bigSep_union disjoint_toks, bigSep_map, bigSep_map, bigSep_univ_prod, bigSep_univ_prod]
  have e1 : (bigSep Finset.univ fun c : Dev nD => bigSep Finset.univ fun b : Bool => (dutyTok ER (barC c) 0 b : sProp 𝕄))
      = bigSep Finset.univ fun c : Dev nD => signs c := by
    unfold signs
    have ey : (bigSep Finset.univ fun c : Dev nD => (dutyTok ER (barC (yp c)) 0 false : sProp 𝕄)) = bigSep Finset.univ fun c : Dev nD => dutyTok ER (barC c) 0 false :=
      (bigSep_univ_equiv ypE (fun c => (dutyTok ER (barC c) 0 false : sProp 𝕄))).symm
    have ex : (bigSep Finset.univ fun c : Dev nD => (dutyTok ER (barC (xn c)) 0 true : sProp 𝕄)) = bigSep Finset.univ fun c : Dev nD => dutyTok ER (barC c) 0 true :=
      (bigSep_univ_equiv xnE (fun c => (dutyTok ER (barC c) 0 true : sProp 𝕄))).symm
    rw [bigSep_sep', ey, ex, ← bigSep_sep']
    exact bigSep_congr fun c _ => by rw [sepBool]
  have e2 : (bigSep Finset.univ fun c : Dev nD => bigSep Finset.univ fun k : Fl × Bool => (dutyTok ER ((c : Thread nD τ), osem k) 0 false : sProp 𝕄))
      = bigSep Finset.univ fun c : Dev nD => pays c := by
    unfold pays
    have e (c : Dev nD) : (bigSep Finset.univ fun k : Fl × Bool => (dutyTok ER ((c : Thread nD τ), osem k) 0 false : sProp 𝕄))
        = iprop(bigSep Finset.univ (fun f => dutyTok ER (sndC f c) 0 false) ∗ bigSep Finset.univ (fun f => dutyTok ER (rcvC f c) 0 false)) := by
      rw [bigSep_univ_prod, ← bigSep_sep']
      exact bigSep_congr fun f _ => by rw [sepBool]; rfl
    rw [bigSep_congr fun c _ => e c, bigSep_sep', across (fun f c => (dutyTok ER (rcvC f c) 0 false : sProp 𝕄)), ← bigSep_sep']
    exact bigSep_congr fun c _ => (bigSep_sep' _ _ _).symm
  rw [bigSep_sep', ← e1, ← e2]
  rfl

/-- What every device may consult. -/
def records (κ : GSem nD τ sig → ℕ) : sProp 𝕄 := iprop(invs (inp m) κ ∗ bigSep barCells fun g => reached ER g 0)
instance records_persistent (κ : GSem nD τ sig → ℕ) : BI.Persistent (records m κ) := by unfold records; infer_instance

theorem reached_at (c : Dev nD) : (bigSep barCells fun g => (reached ER g 0 : sProp 𝕄)) ⊢ reached ER (barC c) 0 :=
  bigSep_elim (Finset.mem_map_of_mem barEmb (Finset.mem_univ c))

theorem invs_eq (κ : GSem nD τ sig → ℕ) :
    bigSep (barCells ∪ copyCells) (fun g => cellInv ER (rd (inp m)) (κ g) g) = invs (inp m) κ := by
  unfold invs
  rw [BI.bigSep_union disjoint_cells, by_copy, bigSep_map, flat (fun f c => iprop(_ ∗ _)), bigSep_sep']
  rfl

/-! ## The launch credit -/

theorem due_bar (d c : Dev nD) : ∀ l : List Fl, due d l (barC c) () = 0
  | [] => rfl
  | f :: l => by
    show due d l (barC c) () + tallyAt (rcvC f (dest f d)) () (amt f) (barC c) () = 0
    rw [due_bar d c l, tallyAt_ne_cell (fun h => osem_ne_bar (f, true) (congrArg Prod.snd h).symm)]; rfl
theorem due_rcv (d c : Dev nD) (f : Fl) : ∀ l : List Fl, l.Nodup → due d l (rcvC f c) () = if f ∈ l ∧ d = dest f c then amt f else 0
  | [], _ => by rw [if_neg (fun h => absurd h.1 List.not_mem_nil)]; rfl
  | f' :: l, hl => by
    show due d l (rcvC f c) () + tallyAt (rcvC f' (dest f' d)) () (amt f') (rcvC f c) () = _
    rw [due_rcv d c f l (List.nodup_cons.mp hl).2, tallyAt_apply]
    by_cases hf : f = f'
    · subst hf
      rw [if_neg (fun h => (List.nodup_cons.mp hl).1 h.1), Nat.zero_add]
      by_cases hd : d = dest f c
      · rw [if_pos ⟨by rw [hd, dest_dest], rfl⟩, if_pos ⟨List.mem_cons_self, hd⟩]
      · rw [if_neg, if_neg (fun h => hd h.2)]
        rintro ⟨h, -⟩
        refine hd ?_
        rw [show c = dest f d from congrArg (fun g : GSem nD τ sig => g.1.1) h, dest_dest]
    · rw [if_neg (c := rcvC f c = rcvC f' (dest f' d) ∧ () = ())
        (fun h => hf (congrArg Prod.fst (osem_inj (a₁ := (f, true)) (a₂ := (f', true)) (congrArg Prod.snd h.1)))), Nat.add_zero]
      simp only [List.mem_cons, hf, false_or]

theorem owed_bar (d c : Dev nD) : due₀ d (barC c) () = (if d = xn c then 1 else 0) + (if d = yp c then 1 else 0) := by
  show due d Fl.all (barC c) () + tallyAt (barC (xn d)) () 1 (barC c) () + tallyAt (barC (yp d)) () 1 (barC c) () = _
  rw [due_bar, Nat.zero_add, tallyAt_apply, tallyAt_apply]
  congr 1
  · refine if_congr ⟨fun h => ?_, fun h => ⟨by rw [h, xn_xn], rfl⟩⟩ rfl rfl
    rw [show c = xn d from congrArg (fun g : GSem nD τ sig => g.1.1) h.1, xn_xn]
  · refine if_congr ⟨fun h => ?_, fun h => ⟨by rw [h, yp_yp], rfl⟩⟩ rfl rfl
    rw [show c = yp d from congrArg (fun g : GSem nD τ sig => g.1.1) h.1, yp_yp]

theorem owed_rcv (d c : Dev nD) (f : Fl) : due₀ d (rcvC f c) () = if d = dest f c then amt f else 0 := by
  show due d Fl.all (rcvC f c) () + tallyAt (barC (xn d)) () 1 (rcvC f c) () + tallyAt (barC (yp d)) () 1 (rcvC f c) () = _
  rw [due_rcv d c f Fl.all (by decide), tallyAt_ne_cell (fun h => osem_ne_bar (f, true) (congrArg Prod.snd h)),
    tallyAt_ne_cell (fun h => osem_ne_bar (f, true) (congrArg Prod.snd h))]
  simp only [Fl.mem_all, true_and]
  rfl

theorem launch_bar (c : Dev nD) :
    tallyOn (barC c) (launchCredit (Pipeline.owing due₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xn c) fun _ => 1, Finset.sum_ite_eq' Finset.univ (yp c) fun _ => 1,
    if_pos (Finset.mem_univ _), if_pos (Finset.mem_univ _)]
theorem launch_rcv (f : Fl) (c : Dev nD) :
    tallyOn (rcvC f c) (launchCredit (Pipeline.owing due₀) 0 (rcvC f c)) = (tallyAt (rcvC f c) () (amt f) : CellTallies nD τ sig Unit) := by
  unfold tallyAt; refine congrArg _ (Finsupp.ext fun u => ?_); cases u
  rw [Pipeline.launchCredit_owing, Finsupp.single_eq_same, Finset.sum_congr rfl fun d _ => owed_rcv d c f,
    Finset.sum_ite_eq' Finset.univ (dest f c) fun _ => amt f, if_pos (Finset.mem_univ _)]

def rcvEmb : Fl ↪ SemLoc sig := ⟨fun f => .dma (rS f), fun f f' h =>
  congrArg Prod.fst (osem_inj (a₁ := (f, true)) (a₂ := (f', true)) h)⟩

theorem creds (c : Dev nD) : (Pipeline.launchCred due₀ c : sProp 𝕄)
    ⊢ iprop(cred (tallyAt (barC c) () 2) ∗ bigSep Finset.univ fun f => cred (tallyAt (rcvC f c) () (amt f))) := by
  unfold Pipeline.launchCred
  rw [bigSep_univ_at _ (SemLoc.reg barS), launch_bar]
  refine sep_mono_right ?_
  refine (BI.bigSep_subset (t := Finset.univ.map rcvEmb) fun sm h => ?_).trans ?_
  · obtain ⟨f, -, rfl⟩ := Finset.mem_map.mp h
    exact Finset.mem_erase.mpr ⟨osem_ne_bar (f, true), Finset.mem_univ _⟩
  · rw [bigSep_map]
    exact Entails.of_eq (bigSep_congr fun f _ => congrArg _ (launch_rcv f c))

/-! ## The launch -/

theorem unscoped_eq : ∀ sm : SemLoc sig, sm.isScoped .tc = false → sm = .reg barS := by decide
theorem unscopedSems_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

def u₀ : UU :=
  (initOf (Pipeline.cells (Pipeline.pin (pcfgs (F := F)) adm) cellOf_inj) (Pipeline.launchToks (Pipeline.pin (pcfgs (F := F)) adm) cellOf_inj),
    launchOf barCells copyCells toks)

/-- The launch's element, in the hands of device 0. -/
def G (c : Dev nD) : sProp 𝕄 := if c = 0 then BI.own (ER (launchOf barCells copyCells toks)) else iprop(emp)
theorem G_all : bigSep Finset.univ (G (F := F)) = BI.own (ER (launchOf barCells copyCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev T₀ (c : Dev nD) : sProp 𝕄 := iprop(StableHlo.held (c : Thread nD τ) ucs (V₀ m c) ∗ R m c)

/-- What of a device's launch holdings is not a token. -/
def bundle (c : Dev nD) : sProp 𝕄 :=
  iprop(StableHlo.held (c : Thread nD τ) ucs (V₀ m c) ∗ cred (tallyAt (barC c) () 2)
    ∗ bigSep Finset.univ (fun f => cred (tallyAt (rcvC f c) () (amt f)))
    ∗ owes (c : Thread nD τ) (due₀ c) ∅ ∗ ∃ r, prngReg c r)

theorem pend_intro (f : Fl) (c : Dev nD) : iprop((dutyTok ER (sndC f c) 0 false ∗ dutyTok ER (rcvC f (dest f c)) 0 false)
    ∗ (openTok ER (sndC f c) ∗ openTok ER (rcvC f c)) ∗ cred (tallyAt (rcvC f c) () (amt f))) ⊢ pend (F := F) f c := by
  unfold pend
  iintro ⟨⟨H1, H2⟩, ⟨H3, H4⟩, H5⟩
  isplitl [H1]; · iexact H1
  isplitl [H2]; · iexact H2
  isplitl [H3]; · iexact H3
  isplitl [H4] <;> iassumption

theorem pends (c : Dev nD) : iprop(pays (F := F) c ∗ opens c ∗ bigSep Finset.univ (fun f => cred (tallyAt (rcvC f c) () (amt f))))
    ⊢ bigSep Finset.univ (fun f => pend f c) := by
  unfold pays opens
  rw [← bigSep_sep', ← bigSep_sep']
  exact bigSep_mono fun f _ => pend_intro f c

theorem T₀_intro (κ : GSem nD τ sig → ℕ) (c : Dev nD) : iprop(records m κ ∗ (linear c ∗ bundle m c)) ⊢ T₀ m c := by
  unfold records linear signs bundle T₀ R Tk barPre
  iintro ⟨⟨#HI, #HR⟩, ⟨HaB, Ho, ⟨HtY, HtX⟩, Hpay⟩, Hh, Hc2, Hc, HO, Hp⟩
  isplitl [Hh]; · iexact Hh
  isplitr [HO Hp]
  · iexists κ
    isplitr; · iexact HI
    isplitl [HaB HtY HtX Hc2]
    · isplitl [HtY]; · iexact HtY
      isplitl [HtX]; · iexact HtX
      isplitr; · iapply (reached_at (F := F) (yp c)); iexact HR
      isplitr; · iapply (reached_at (F := F) (xn c)); iexact HR
      isplitl [HaB] <;> iassumption
    iapply (pends (F := F) c)
    isplitl [Hpay]; · iexact Hpay
    isplitl [Ho] <;> iassumption
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (due₀ c) ∅ ∗ Pipeline.launchCred due₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (due₀ c) ∅ ∗ Pipeline.launchCred due₀ c ∗ prngReg c (ρ c) ∗ G c)
      ⊢ (iprop(bundle m c ∗ (semVal (barC c) 0 ∗ G c)) : sProp 𝕄) := by
    rw [show unscopedBufs c (fun b => m ((c : Thread nD τ).loc b)) = StableHlo.held (c : Thread nD τ) ucs (V₀ m c)
      from Pipeline.unscopedBufs_held c (V₀ m c), unscopedSems_eq]
    unfold bundle
    iintro ⟨Hh, Hus, HO, Hcr, Hp, HG⟩
    ihave Hc := (creds (F := F) c) $$ Hcr
    icases Hc with ⟨H2, Hf⟩
    isplitl [Hh H2 Hf HO Hp]
    · isplitl [Hh]; · iexact Hh
      isplitl [H2]; · iexact H2
      isplitl [Hf]; · iexact Hf
      isplitl [HO]; · iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep copyCells (fun g => (openTok ER g : sProp 𝕄)) ⊢ bigSep Finset.univ (fun c : Dev nD => opens (F := F) c) :=
    Entails.of_eq (by_copy _)
  iintro ⟨H, -⟩
  ihave H' := (show (bigSep Finset.univ fun c : Dev nD => iprop(unscopedBufs c (fun b => m ((c : Thread nD τ).loc b)) ∗ unscopedSems0 c
          ∗ owes (c : Thread nD τ) (due₀ c) ∅ ∗ Pipeline.launchCred due₀ c ∗ prngReg c (ρ c) ∗ G c))
      ⊢ iprop(bigSep Finset.univ (bundle m) ∗ bigSep Finset.univ (fun c : Dev nD => semVal (barC c) 0) ∗ bigSep Finset.univ (G (F := F))) from by
        rw [← bigSep_sep', ← bigSep_sep']; exact bigSep_mono fun c _ => hcore c) $$ H
  icases H' with ⟨HB, Hv, HG⟩
  ihave Hu := (Entails.of_eq (G_all (F := F))) $$ HG
  imod (Rounds.fund_launch ER (rd (inp m)) disjoint_cells (fun g _ h => h) toks) $$ [Hv Hu] with ⟨%κ, -, Hinv, #Hr, Hat, Hopen, Htok⟩
  · isplitl [Hv]
    · iapply hv $$ Hv
    · iexact Hu
  ihave #Hinv := (Entails.of_eq (invs_eq m κ)) $$ Hinv
  imodintro
  iapply (bigSep_with_persistent (R := records m κ) (Φ := fun c => iprop(linear c ∗ bundle m c)) fun c _ => T₀_intro m κ c)
  isplitr
  · unfold records
    isplitr; · iexact Hinv
    iexact Hr
  rw [bigSep_sep']
  isplitr [HB]
  · unfold linear
    rw [bigSep_sep', bigSep_sep']
    isplitl [Hat]; · iapply hat $$ Hat
    isplitl [Hopen]; · iapply hopen $$ Hopen
    iapply (Entails.of_eq (toks_deal (F := F))) $$ Htok
  · iexact HB

/-! ## The run -/

def segs : List (Pipeline.Seg (pcfgs (F := F)) adm (pdats m) () defs₀ 𝒱₀ L lv) :=
  [.host (seg m), .region (reg m)]

theorem ucs_eq (c : Dev nD) (W : Valuation τ sig (Elt F)) : (StableHlo.held (c : Thread nD τ) ucs W : sProp 𝕄)
    = iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_arg3 ↦{fullShare} W main_arg3)
      ∗ ((c : Thread nD τ).loc main_v1 ↦{fullShare} W main_v1) ∗ ((c : Thread nD τ).loc main_v2 ↦{fullShare} W main_v2)) := by
  unfold StableHlo.held
  rw [bigSep_eq_bigSepL_of_eq [Proc.devRef .tc main_arg0, Proc.devRef .tc main_arg1, Proc.devRef .tc main_arg2, Proc.devRef .tc main_arg3,
    Proc.devRef .tc main_v1, Proc.devRef .tc main_v2] (by decide) (by decide)]
  rfl

set_option backward.isDefEq.respectTransparency.types false in
/-- The run: every device ends with its arguments as they were, its result at `outF`, and every semaphore at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_v2) = outF c (inp m)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg m) (reg m) rfl c]; rfl)
    (by simp only [segs, Pipeline.Seg.pipes_host, Pipeline.Seg.pipes_region, Pipeline.Seg.pipes_nil]; decide)
    (O₀ := due₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c main_arg0 ∧ s.mem ((c : Thread nD τ).loc main_arg1) = V₂ m c main_arg1
        ∧ s.mem ((c : Thread nD τ).loc main_arg2) = V₂ m c main_arg2 ∧ s.mem ((c : Thread nD τ).loc main_arg3) = V₂ m c main_arg3
        ∧ s.mem ((c : Thread nD τ).loc main_v2) = V₂ m c main_v2)
      ∧ s.sem (barC c) = 0)
    (hfin := fun c s' => by
      dsimp only [Tₙ]; rw [ucs_eq]
      iintro ⟨⟨⟨H0, H1, H2, H3, -, H4⟩, Hb0⟩, HSI⟩
      icombine HSI H0 gives %h0
      icombine HSI H1 gives %h1
      icombine HSI H2 gives %h2
      icombine HSI H3 gives %h3
      icombine HSI H4 gives %h4
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4⟩, by simpa using hb⟩
      iexact HSI)
    (hQ := fun s h hs => ⟨fun c => by
        obtain ⟨⟨h0, h1, h2, h3, h4⟩, -⟩ := h c
        refine ⟨h0.trans ?_, h1.trans ?_, h2.trans ?_, h3.trans ?_, h4.trans (V₂_out m c)⟩
        · exact (V₂_ne m c main_arg0 (by decide)).trans (V_main_arg0 m c)
        · exact (V₂_ne m c main_arg1 (by decide)).trans (V_main_arg1 m c)
        · exact (V₂_ne m c main_arg2 (by decide)).trans (V_main_arg2 m c)
        · exact (V₂_ne m c main_arg3 (by decide)).trans (V_main_arg3 m c),
      sem_eq_zero hs fun c sm hsm => by
        obtain rfl := unscoped_eq sm hsm
        exact (h c).2⟩)

end Cert.KernelIdeal.Moe

end
-- ==== Proof.Mlp.lean ====
/-
  One expert's network on one row, over the extended reals, and the choice among four experts by a row's
  assignment: a masked row gives zero, so the choice is also the sum of the four masked terms.
-/
module

public import Idealize.ShloMosaic.Lib.Pointwise
public import Mathlib.Data.EReal.Operations
public import Mathlib.Algebra.BigOperators.Fin

@[expose] public section

noncomputable section

namespace Cert.Moe

/-- The row `x` through the two layers `w1`, `w2` of one expert, read at column `l`. -/
def mlp (x : Fin 512 → EReal) (w1 : Fin 512 → Fin 1024 → EReal) (w2 : Fin 1024 → Fin 512 → EReal) (l : Fin 512) : EReal :=
  ∑ h : Fin 1024, max (∑ k : Fin 512, x k * w1 k h) 0 * w2 h l

theorem mlp_zero (w1 : Fin 512 → Fin 1024 → EReal) (w2 : Fin 1024 → Fin 512 → EReal) (l : Fin 512) :
    mlp (fun _ => 0) w1 w2 l = 0 := by
  simp [mlp]

/-- A row that is masked by a condition gives the condition's choice between the expert's value and zero. -/
theorem mlp_mask (p : Prop) [Decidable p] (x : Fin 512 → EReal) (w1 : Fin 512 → Fin 1024 → EReal)
    (w2 : Fin 1024 → Fin 512 → EReal) (l : Fin 512) :
    mlp (fun k => if p then x k else 0) w1 w2 l = if p then mlp x w1 w2 l else 0 := by
  by_cases h : p
  · simp [h]
  · simp only [h, if_false]; exact mlp_zero w1 w2 l

/-- The value of the expert whose number is `a`, zero if there is none. -/
def chosen (a : BitVec 32) (f0 f1 f2 f3 : EReal) : EReal :=
  if a = 3#32 then f3 else if a = 2#32 then f2 else if a = 1#32 then f1 else if a = 0#32 then f0 else 0

theorem chosen_eq (a : BitVec 32) (f0 f1 f2 f3 : EReal) :
    chosen a f0 f1 f2 f3 = ((if a = 0#32 then f0 else 0) + (if a = 1#32 then f1 else 0))
      + ((if a = 2#32 then f2 else 0) + (if a = 3#32 then f3 else 0)) := by
  unfold chosen
  by_cases h3 : a = 3#32
  · subst h3; simp
  by_cases h2 : a = 2#32
  · subst h2; simp
  by_cases h1 : a = 1#32
  · subst h1; simp
  by_cases h0 : a = 0#32
  · subst h0; simp
  simp [h0, h1, h2, h3]

/-- A choice on the equality of two words. -/
theorem select_eq_ite {α : Type} (a b : BitVec 32) (x y : α) :
    Idealize.ShloMosaic.Scalar.select (Idealize.ShloMosaic.IntOp.cmpi .eq a b) x y = if a = b then x else y := by
  by_cases h : a = b
  · simp [Idealize.ShloMosaic.Scalar.select, Idealize.ShloMosaic.IntOp.cmpi, h]
  · have : (a == b) = false := by simpa using h
    simp [Idealize.ShloMosaic.Scalar.select, Idealize.ShloMosaic.IntOp.cmpi, h, this]

end Cert.Moe

end
-- ==== Proof.RefValue.lean ====
/-
  The reference's result at an index: the network of the expert that the row is assigned to.
-/
module

public import proofs.«01_k».proof.Proof.Gen.ReferenceIdeal.Read
public import proofs.«01_k».proof.Proof.Mlp
public import Idealize.ShloMosaic.Lib.Pointwise

@[expose] public section

noncomputable section

namespace Cert.ReferenceIdeal.RefValue

open Idealize.ShloMosaic Idealize.ShloMosaic.Pointwise
open Cert.ReferenceIdeal Cert.ReferenceIdeal.Gen Cert.ReferenceIdeal.Read Cert.Moe

variable (x : (⟨S1024x512, .bf16⟩ : BufTy).Contents (Elt Ideal)) (a : (⟨S1024, .i32⟩ : BufTy).Contents (Elt Ideal))
  (w1 : (⟨S4x512x1024, .bf16⟩ : BufTy).Contents (Elt Ideal)) (w2 : (⟨S4x1024x512, .bf16⟩ : BufTy).Contents (Elt Ideal))

/-- Expert `e`'s network on row `r` of the whole arrays. -/
def expert (e : Fin 4) (r : Fin 1024) (l : Fin 512) : EReal :=
  mlp (fun k => x (ix2 r k)) (fun k h => w1 (ix3 e k h)) (fun h l => w2 (ix3 e h l)) l

theorem expert0 (r : Fin 1024) (l : Fin 512) : val_main_v9 (F := Ideal) x w1 w2 (ix2 r l) = expert x w1 w2 0 r l := by
  pointwise [val_main_v9, val_main_v8, val_main_v7, val_main_v6, val_main_v5, val_main_v4, val_main_cst_0, val_main_v3, val_main_v2, val_main_v1, expert, mlp]
theorem expert1 (r : Fin 1024) (l : Fin 512) : val_main_v22 (F := Ideal) x w1 w2 (ix2 r l) = expert x w1 w2 1 r l := by
  pointwise [val_main_v22, val_main_v21, val_main_v20, val_main_v19, val_main_v18, val_main_v17, val_main_cst_1, val_main_v16, val_main_v15, val_main_v14, expert, mlp]
theorem expert2 (r : Fin 1024) (l : Fin 512) : val_main_v35 (F := Ideal) x w1 w2 (ix2 r l) = expert x w1 w2 2 r l := by
  pointwise [val_main_v35, val_main_v34, val_main_v33, val_main_v32, val_main_v31, val_main_v30, val_main_cst_3, val_main_v29, val_main_v28, val_main_v27, expert, mlp]
theorem expert3 (r : Fin 1024) (l : Fin 512) : val_main_v48 (F := Ideal) x w1 w2 (ix2 r l) = expert x w1 w2 3 r l := by
  pointwise [val_main_v48, val_main_v47, val_main_v46, val_main_v45, val_main_v44, val_main_v43, val_main_cst_5, val_main_v42, val_main_v41, val_main_v40, expert, mlp]

/-- The reference's result at row `r`, column `l`. -/
theorem ref_apply (r : Fin 1024) (l : Fin 512) :
    val_main_v53 (F := Ideal) x a w1 w2 (ix2 r l)
      = chosen (a (ix1 r)) (expert x w1 w2 0 r l) (expert x w1 w2 1 r l) (expert x w1 w2 2 r l) (expert x w1 w2 3 r l) := by
  rw [← expert0, ← expert1, ← expert2, ← expert3]
  pointwise [val_main_v53, val_main_v52, val_main_v39, val_main_v26, val_main_v13, val_main_v0, val_main_cst,
    val_main_call0_v0, val_main_call1_v0, val_main_call2_v0, val_main_call3_v0,
    val_main_v12, val_main_v11, val_main_v10, val_main_c, val_main_v25, val_main_v24, val_main_v23, val_main_c_2,
    val_main_v38, val_main_v37, val_main_v36, val_main_c_4, val_main_v51, val_main_v50, val_main_v49, val_main_c_6, chosen]
  simp only [select_eq_ite]

end Cert.ReferenceIdeal.RefValue

end
-- ==== Proof.Value.lean ====
/-
  The kernel's result at an index: the two devices of a pair add the terms of the experts that each of them holds.
-/
module

public import proofs.«01_k».proof.Proof.Bufs
public import proofs.«01_k».proof.Proof.RefValue
public import Idealize.ShloMosaic.Lib.Pointwise

@[expose] public section

noncomputable section

namespace Cert.KernelIdeal.Moe

open Idealize.ShloMosaic Idealize.ShloMosaic.Pointwise
open Cert.KernelIdeal Cert.KernelIdeal.Gen Cert.Moe

/-! ## The payloads -/

theorem pay1_apply (v : Vec Ideal S256x1 .i32) (i : S256x1.Idx) : k0_pay1 v i = v i := by
  pointwise [k0_pay1]
theorem pay7_apply (v : Vec Ideal S1x512x1024 .bf16) (k : Fin 512) (h : Fin 1024) :
    k0_pay7 v (ix2 k h) = v (ix3 0 k h) := by
  pointwise [k0_pay7]
theorem pay8_apply (v : Vec Ideal S1x512x1024 .bf16) (k : Fin 512) (h : Fin 1024) :
    k0_pay8 v (ix2 k h) = v (ix3 0 k h) := by
  pointwise [k0_pay8]
theorem pay9_apply (v : Vec Ideal S1x1024x512 .bf16) (h : Fin 1024) (l : Fin 512) :
    k0_pay9 v (ix2 h l) = v (ix3 0 h l) := by
  pointwise [k0_pay9]
theorem pay10_apply (v : Vec Ideal S1x1024x512 .bf16) (h : Fin 1024) (l : Fin 512) :
    k0_pay10 v (ix2 h l) = v (ix3 0 h l) := by
  pointwise [k0_pay10]

/-- One device's two terms for a row `x` that is assigned to expert `a`. -/
def terms (yw a : BitVec 32) (x : Fin 512 → EReal) (w10 w11 : FVec Ideal S512x1024 .bf16) (w20 w21 : FVec Ideal S1024x512 .bf16)
    (l : Fin 512) : EReal :=
  (if a = Scalar.addi (Scalar.muli yw 2#32) 0#32 then mlp x (fun k h => w10 (ix2 k h)) (fun h l => w20 (ix2 h l)) l else 0)
    + (if a = Scalar.addi (Scalar.muli yw 2#32) 1#32 then mlp x (fun k h => w11 (ix2 k h)) (fun h l => w21 (ix2 h l)) l else 0)

theorem pay11_apply (yw : BitVec 32) (w10 w11 : FVec Ideal S512x1024 .bf16) (w20 w21 : FVec Ideal S1024x512 .bf16)
    (x : Vec Ideal S256x512 .bf16) (a : Vec Ideal S256x1 .i32) (r : Fin 256) (l : Fin 512) :
    k0_pay11 yw w10 w11 w20 w21 x a (ix2 r l) = terms yw (a (ix2 r 0)) (fun k => x (ix2 r k)) w10 w11 w20 w21 l := by
  unfold terms
  rw [← mlp_mask, ← mlp_mask]
  simp only [← select_eq_ite]
  pointwise [k0_pay11, mlp]

theorem pay13_apply (yw : BitVec 32) (w10 w11 : FVec Ideal S512x1024 .bf16) (w20 w21 : FVec Ideal S1024x512 .bf16)
    (x : Vec Ideal S64x512 .bf16) (a : Vec Ideal S64x1 .i32) (r : Fin 64) (l : Fin 512) :
    k0_pay13 yw w11 w21 x a (k0_pay12 yw w10 w20 x a) 2#32 (ix2 r l)
      = terms yw (a (ix2 r 0)) (fun k => x (ix2 r k)) w10 w11 w20 w21 l := by
  unfold terms
  rw [← mlp_mask, ← mlp_mask]
  simp only [← select_eq_ite]
  pointwise [k0_pay12, k0_pay13, mlp]

theorem pay21_apply (u v : Vec Ideal S64x512 .bf16) (i : S64x512.Idx) : k0_pay21 u v i = u i + v i := by
  pointwise [k0_pay21]

/-! ## The contents, row by row -/

variable (I : Inp Ideal)

theorem half_row (c : Dev nD) (r : Fin 256) : 256 * (c.val / 4) + r.val < 512 := half_lt c r

/-- Row `r` of a device's half of the rows, and the row's assignment. -/
def rowX (c : Dev nD) (r : Fin 256) : Fin 512 → EReal := fun k => I.x c (ix2 ⟨256 * (c.val / 4) + r.val, half_row c r⟩ k)
def rowA (c : Dev nD) (r : Fin 256) : BitVec 32 := I.a c (ix2 ⟨256 * (c.val / 4) + r.val, half_row c r⟩ 0)

/-- Device `d`'s two terms for a row. -/
def trm (d : Dev nD) (a : BitVec 32) (x : Fin 512 → EReal) (l : Fin 512) : EReal :=
  terms (yW d) a x (w10 I d) (w11 I d) (w20 I d) (w21 I d) l

theorem xsF_apply (c : Dev nD) (r : Fin 256) (k : Fin 512) : xsF I c (ix2 r k) = rowX I c r k := by
  unfold xsF rowX
  congr 1
  funext b
  match b with
  | 0 => rfl
  | 1 => rfl

theorem inA_emb (c : Dev nD) (r : Fin 256) :
    (inA c).emb (ix2 (n0 := 256) (n1 := 1) r 0) = ix2 (n0 := 512) (n1 := 1) ⟨256 * (c.val / 4) + r.val, half_row c r⟩ 0 := by
  have e := k0_off1_eq c
  funext b
  apply Fin.ext
  match b with
  | 0 => show k0_off1 c 0 + 1 * r.val = _; rw [e, Nat.one_mul]; rfl
  | 1 => show k0_off1 c 1 + 1 * 0 = _; rw [e]; rfl

theorem asF_apply (c : Dev nD) (r : Fin 256) : asF I c (ix2 (n0 := 256) (n1 := 1) r 0) = rowA I c r := by
  unfold asF rowA
  rw [pay1_apply, inA_emb]

theorem chunk_row (k : Fin 4) (r : Fin 64) : 64 * k.val + r.val < 256 := by omega

theorem ch_emb (k : Fin 4) (r : Fin 64) (l : Fin 512) :
    (ch k).emb (ix2 (n0 := 64) (n1 := 512) r l) = ix2 (n0 := 256) (n1 := 512) ⟨64 * k.val + r.val, chunk_row k r⟩ l := by
  funext b
  apply Fin.ext
  match b with
  | 0 => show 64 * k.val + 1 * r.val = _; rw [Nat.one_mul]; rfl
  | 1 => show 0 + 1 * l.val = _; rw [Nat.one_mul, Nat.zero_add]; rfl
theorem ach_emb (k : Fin 4) (r : Fin 64) :
    (ach k).emb (ix2 (n0 := 64) (n1 := 1) r 0) = ix2 (n0 := 256) (n1 := 1) ⟨64 * k.val + r.val, chunk_row k r⟩ 0 := by
  funext b
  apply Fin.ext
  match b with
  | 0 => show 64 * k.val + 1 * r.val = _; rw [Nat.one_mul]; rfl
  | 1 => rfl

theorem ownC_apply (c : Dev nD) (k : Fin 4) (r : Fin 64) (l : Fin 512) :
    ownC I c k (ix2 r l)
      = trm I c (rowA I c ⟨64 * k.val + r.val, chunk_row k r⟩) (rowX I c ⟨64 * k.val + r.val, chunk_row k r⟩) l := by
  unfold ownC ownF
  rw [ch_emb, pay11_apply, asF_apply]
  simp only [xsF_apply]
  rfl

theorem psC_apply (d : Dev nD) (k : Fin 4) (r : Fin 64) (l : Fin 512) :
    psC I d k (ix2 r l)
      = trm I d (rowA I (yp d) ⟨64 * k.val + r.val, chunk_row k r⟩) (rowX I (yp d) ⟨64 * k.val + r.val, chunk_row k r⟩) l := by
  unfold psC
  rw [pay13_apply]
  unfold asC xsC
  rw [ach_emb, asF_apply]
  simp only [ch_emb, xsF_apply]
  rfl

theorem outN_apply (c : Dev nD) (k : Fin 4) (r : Fin 64) (l : Fin 512) (R : Fin 256) (hR : R.val = 64 * k.val + r.val) :
    outN I c k (ix2 r l) = trm I c (rowA I c R) (rowX I c R) l + trm I (yp c) (rowA I c R) (rowX I c R) l := by
  obtain rfl : R = ⟨64 * k.val + r.val, chunk_row k r⟩ := Fin.ext hR
  unfold outN addC
  rw [pay21_apply, ownC_apply, psC_apply, yp_yp]

/-! ## Against the whole arrays -/

/-- A device's position among the pairs of experts. -/
def yN (c : Dev nD) : ℕ := c.val / 2 % 2
theorem yN_lt (c : Dev nD) : yN c < 2 := Nat.mod_lt _ (by decide)

theorem row_lt (c : Dev nD) (i : Fin 512) : 512 * yN c + i.val < 1024 := by have := yN_lt c; omega
theorem exp_lt (c : Dev nD) (e : Fin 2) : 2 * yN c + e.val < 4 := by have := yN_lt c; omega

variable (X : (⟨2, ![1024, 512]⟩ : Shape).Idx → EReal) (A : (⟨1, ![1024]⟩ : Shape).Idx → BitVec 32)
  (W1 : (⟨3, ![4, 512, 1024]⟩ : Shape).Idx → EReal) (W2 : (⟨3, ![4, 1024, 512]⟩ : Shape).Idx → EReal)

/-- The devices hold their blocks of the whole arrays. -/
structure Holds : Prop where
  x : ∀ (c : Dev nD) (i k : Fin 512), I.x c (ix2 i k) = X (ix2 ⟨512 * yN c + i.val, row_lt c i⟩ k)
  a : ∀ (c : Dev nD) (i : Fin 512), I.a c (ix2 i 0) = A (ix1 ⟨512 * yN c + i.val, row_lt c i⟩)
  w1 : ∀ (c : Dev nD) (e : Fin 2) (k : Fin 512) (h : Fin 1024), I.w1 c (ix3 e k h) = W1 (ix3 ⟨2 * yN c + e.val, exp_lt c e⟩ k h)
  w2 : ∀ (c : Dev nD) (e : Fin 2) (h : Fin 1024) (l : Fin 512), I.w2 c (ix3 e h l) = W2 (ix3 ⟨2 * yN c + e.val, exp_lt c e⟩ h l)

/-- Expert `e` on a row. -/
def net (x : Fin 512 → EReal) (e : Fin 4) (l : Fin 512) : EReal :=
  mlp x (fun k h => W1 (ix3 e k h)) (fun h l => W2 (ix3 e h l)) l

theorem word0 : ∀ c : Dev nD, Scalar.addi (Scalar.muli (yW c) 2#32) 0#32 = BitVec.ofNat 32 (2 * yN c) := by decide +kernel
theorem word1 : ∀ c : Dev nD, Scalar.addi (Scalar.muli (yW c) 2#32) 1#32 = BitVec.ofNat 32 (2 * yN c + 1) := by decide +kernel

variable {I X A W1 W2} (H : Holds I X A W1 W2)
include H

theorem w10_apply (d : Dev nD) (k : Fin 512) (h : Fin 1024) :
    w10 I d (ix2 k h) = W1 (ix3 ⟨2 * yN d, exp_lt d 0⟩ k h) := by
  unfold w10
  rw [pay7_apply]
  refine Eq.trans (congrArg (I.w1 d) ?_) (H.w1 d 0 k h)
  funext b
  apply Fin.ext
  match b with
  | 0 => rfl
  | 1 => show 0 + 1 * k.val = _; rw [Nat.one_mul, Nat.zero_add]; rfl
  | 2 => show 0 + 1 * h.val = _; rw [Nat.one_mul, Nat.zero_add]; rfl
theorem w11_apply (d : Dev nD) (k : Fin 512) (h : Fin 1024) :
    w11 I d (ix2 k h) = W1 (ix3 ⟨2 * yN d + 1, exp_lt d 1⟩ k h) := by
  unfold w11
  rw [pay8_apply]
  refine Eq.trans (congrArg (I.w1 d) ?_) (H.w1 d 1 k h)
  funext b
  apply Fin.ext
  match b with
  | 0 => rfl
  | 1 => show 0 + 1 * k.val = _; rw [Nat.one_mul, Nat.zero_add]; rfl
  | 2 => show 0 + 1 * h.val = _; rw [Nat.one_mul, Nat.zero_add]; rfl
theorem w20_apply (d : Dev nD) (h : Fin 1024) (l : Fin 512) :
    w20 I d (ix2 h l) = W2 (ix3 ⟨2 * yN d, exp_lt d 0⟩ h l) := by
  unfold w20
  rw [pay9_apply]
  refine Eq.trans (congrArg (I.w2 d) ?_) (H.w2 d 0 h l)
  funext b
  apply Fin.ext
  match b with
  | 0 => rfl
  | 1 => show 0 + 1 * h.val = _; rw [Nat.one_mul, Nat.zero_add]; rfl
  | 2 => show 0 + 1 * l.val = _; rw [Nat.one_mul, Nat.zero_add]; rfl
theorem w21_apply (d : Dev nD) (h : Fin 1024) (l : Fin 512) :
    w21 I d (ix2 h l) = W2 (ix3 ⟨2 * yN d + 1, exp_lt d 1⟩ h l) := by
  unfold w21
  rw [pay10_apply]
  refine Eq.trans (congrArg (I.w2 d) ?_) (H.w2 d 1 h l)
  funext b
  apply Fin.ext
  match b with
  | 0 => rfl
  | 1 => show 0 + 1 * h.val = _; rw [Nat.one_mul, Nat.zero_add]; rfl
  | 2 => show 0 + 1 * l.val = _; rw [Nat.one_mul, Nat.zero_add]; rfl

/-- A device's two terms are those of the experts `2 y` and `2 y + 1`. -/
theorem trm_eq (d : Dev nD) (a : BitVec 32) (x : Fin 512 → EReal) (l : Fin 512) :
    trm I d a x l = (if a = BitVec.ofNat 32 (2 * yN d) then net W1 W2 x ⟨2 * yN d, exp_lt d 0⟩ l else 0)
      + (if a = BitVec.ofNat 32 (2 * yN d + 1) then net W1 W2 x ⟨2 * yN d + 1, exp_lt d 1⟩ l else 0) := by
  unfold trm terms net
  simp only [word0, word1, w10_apply H, w11_apply H, w20_apply H, w21_apply H]

omit H in
theorem yN_yp : ∀ c : Dev nD, yN (yp c) = 1 - yN c := by decide
omit H in
theorem yN_xn : ∀ c : Dev nD, yN (xn c) = yN c := by decide
omit H in
theorem half_xn : ∀ c : Dev nD, (xn c).val / 4 = 1 - c.val / 4 := by decide

/-- The terms of the two devices of a pair are the assigned expert's value. -/
theorem pair_eq (c : Dev nD) (a : BitVec 32) (x : Fin 512 → EReal) (l : Fin 512) :
    trm I c a x l + trm I (yp c) a x l
      = chosen a (net W1 W2 x 0 l) (net W1 W2 x 1 l) (net W1 W2 x 2 l) (net W1 W2 x 3 l) := by
  rw [chosen_eq, trm_eq H, trm_eq H]
  have hy := yN_yp c
  rcases (show yN c = 0 ∨ yN c = 1 by have := yN_lt c; omega) with h | h
  · simp only [hy, h]; rfl
  · simp only [hy, h]; exact add_comm _ _

/-- A device's result at an index is the assigned expert's value of the whole arrays' row. -/
theorem outF_apply (c : Dev nD) (i l : Fin 512) :
    outF c I (ix2 i l)
      = chosen (A (ix1 ⟨512 * yN c + i.val, row_lt c i⟩))
          (ReferenceIdeal.RefValue.expert X W1 W2 0 ⟨512 * yN c + i.val, row_lt c i⟩ l)
          (ReferenceIdeal.RefValue.expert X W1 W2 1 ⟨512 * yN c + i.val, row_lt c i⟩ l)
          (ReferenceIdeal.RefValue.expert X W1 W2 2 ⟨512 * yN c + i.val, row_lt c i⟩ l)
          (ReferenceIdeal.RefValue.expert X W1 W2 3 ⟨512 * yN c + i.val, row_lt c i⟩ l) := by
  have hi := i.isLt
  have key : ∀ n : Dev nD, yN n = yN c → n.val / 4 = i.val / 256 →
      outN I n ⟨i.val % 256 / 64, by omega⟩ (ix2 (n0 := 64) (n1 := 512) ⟨i.val % 64, by omega⟩ l)
        = chosen (A (ix1 ⟨512 * yN c + i.val, row_lt c i⟩))
          (ReferenceIdeal.RefValue.expert X W1 W2 0 ⟨512 * yN c + i.val, row_lt c i⟩ l)
          (ReferenceIdeal.RefValue.expert X W1 W2 1 ⟨512 * yN c + i.val, row_lt c i⟩ l)
          (ReferenceIdeal.RefValue.expert X W1 W2 2 ⟨512 * yN c + i.val, row_lt c i⟩ l)
          (ReferenceIdeal.RefValue.expert X W1 W2 3 ⟨512 * yN c + i.val, row_lt c i⟩ l) := by
    intro n hy hh
    have ei : (⟨256 * (n.val / 4) + i.val % 256, half_row n ⟨i.val % 256, by omega⟩⟩ : Fin 512) = i :=
      Fin.ext (by show 256 * (n.val / 4) + i.val % 256 = i.val; rw [hh]; omega)
    have er : (⟨512 * yN n + i.val, row_lt n i⟩ : Fin 1024) = ⟨512 * yN c + i.val, row_lt c i⟩ := Fin.ext (by show 512 * yN n + i.val = 512 * yN c + i.val; rw [hy])
    have ex : rowX I n ⟨i.val % 256, by omega⟩ = fun k => X (ix2 ⟨512 * yN c + i.val, row_lt c i⟩ k) := by
      funext k
      unfold rowX
      rw [ei, H.x, er]
    have ea : rowA I n ⟨i.val % 256, by omega⟩ = A (ix1 ⟨512 * yN c + i.val, row_lt c i⟩) := by
      unfold rowA
      rw [ei, H.a, er]
    rw [outN_apply I n _ _ l ⟨i.val % 256, by omega⟩ (by show i.val % 256 = 64 * (i.val % 256 / 64) + i.val % 64; omega),
      pair_eq H, ex, ea]
    rfl
  have hj : (fun b => match b with
      | 0 => ⟨i.val % 64, Nat.mod_lt _ (by decide)⟩
      | 1 => ⟨l.val, l.isLt⟩ : S64x512.Idx) = ix2 (n0 := 64) (n1 := 512) ⟨i.val % 64, by omega⟩ l := by
    funext b
    match b with
    | 0 => rfl
    | 1 => rfl
  have e : outF c I (ix2 i l) = if i.val / 256 = c.val / 4
      then outN I c ⟨i.val % 256 / 64, by omega⟩ (ix2 (n0 := 64) (n1 := 512) ⟨i.val % 64, by omega⟩ l)
      else outN I (xn c) ⟨i.val % 256 / 64, by omega⟩ (ix2 (n0 := 64) (n1 := 512) ⟨i.val % 64, by omega⟩ l) := by
    rw [← hj]; rfl
  rw [e]
  split
  · next h => exact key c rfl h.symm
  · next h =>
    refine key (xn c) (yN_xn c) ?_
    rw [half_xn]
    have := half_le c
    omega

end Cert.KernelIdeal.Moe

end
-- ==== Proof.Claims.lean ====
/-
  The claims: the frames, and the kernel's blocks against the reference's whole result.
-/
module

public import proofs.«01_k».proof.Defs
public import proofs.«01_k».proof.Proof.Deal
public import proofs.«01_k».proof.Proof.Float.Deal
public import proofs.«01_k».proof.Proof.Value
public import proofs.«01_k».proof.Proof.Gen.ReferenceIdeal.Run

@[expose] public section

noncomputable section

namespace Cert.Moe.Claims

open Idealize.ShloMosaic Idealize.ShloMosaic.TcCoe Idealize.SL.Sem Idealize.ShloMosaic.Pointwise

/-! ## The frames -/

theorem frame_p : Cert.quiescent_Kernel := fun m ρ _ =>
  (θ_run Cert.Kernel.defs _ _).mono
    (fun _ h => ⟨fun c => ⟨(h.1 c).1, (h.1 c).2.1, (h.1 c).2.2.1, (h.1 c).2.2.2.1⟩, h.2⟩) (Cert.Kernel.Moe.run_main (F := Bits) m ρ)

theorem frame_pi : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩) (Cert.KernelIdeal.Moe.run_main (F := Ideal) m ρ)

theorem frame_ri : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-! ## The value -/

section Blocks

open Cert.KernelIdeal Cert.KernelIdeal.Gen Cert.KernelIdeal.Moe

variable (m : (ℓ : Loc nD τ sig) → Buf (Elt Ideal) ℓ)

/-- The assignment that the kernel's call receives is the argument's, as a column. -/
theorem inp_a (c : Dev nD) (i : Fin 512) :
    (inp m).a c (ix2 (n0 := 512) (n1 := 1) i 0) = m ((c : Thread nD τ).loc main_arg1) (ix1 (n0 := 512) i) := by
  have e : V m c main_v1 = shapeCast S512x1 (m ((c : Thread nD τ).loc main_arg1)) shapeCasts_S512_S512x1 := by
    simp only [V, hostOps0]; after_results; rfl
  show V m c main_v1 (ix2 (n0 := 512) (n1 := 1) i 0) = _
  rw [e]
  pointwise []

variable (X : (⟨2, ![1024, 512]⟩ : Shape).Idx → EReal) (A : (⟨1, ![1024]⟩ : Shape).Idx → BitVec 32)
  (W1 : (⟨3, ![4, 512, 1024]⟩ : Shape).Idx → EReal) (W2 : (⟨3, ![4, 1024, 512]⟩ : Shape).Idx → EReal)

theorem lin1 : ∀ c : Dev nD, Layout.meshLin [2, 2, 2] c.val [1] = yN c := by decide

/-- Devices that start from their blocks hold them. -/
theorem holds
    (hx : ∀ c : Dev nD, m ((c : Thread nD τ).loc main_arg0) = Layout.blockN ⟨2, ![512, 512]⟩ ⟨2, ![1024, 512]⟩ (Layout.meshBlock [2, 2, 2] ![[1], []] c) X)
    (ha : ∀ c : Dev nD, m ((c : Thread nD τ).loc main_arg1) = Layout.blockN ⟨1, ![512]⟩ ⟨1, ![1024]⟩ (Layout.meshBlock [2, 2, 2] ![[1]] c) A)
    (h1 : ∀ c : Dev nD, m ((c : Thread nD τ).loc main_arg2) = Layout.blockN ⟨3, ![2, 512, 1024]⟩ ⟨3, ![4, 512, 1024]⟩ (Layout.meshBlock [2, 2, 2] ![[1], [], []] c) W1)
    (h2 : ∀ c : Dev nD, m ((c : Thread nD τ).loc main_arg3) = Layout.blockN ⟨3, ![2, 1024, 512]⟩ ⟨3, ![4, 1024, 512]⟩ (Layout.meshBlock [2, 2, 2] ![[1], [], []] c) W2) :
    Holds (inp m) X A W1 W2 where
  x c i k := by
    show V m c main_arg0 _ = _
    rw [V_main_arg0, hx c, Layout.blockN_apply]
    refine congrArg X ?_
    funext b
    apply Fin.ext
    match b with
    | 0 => show Layout.meshLin [2, 2, 2] c.val [1] * 512 + i.val = 512 * yN c + i.val; rw [lin1, Nat.mul_comm]
    | 1 => show 0 * 512 + k.val = k.val; omega
  a c i := by
    rw [inp_a, ha c, Layout.blockN_apply]
    refine congrArg A ?_
    funext b
    apply Fin.ext
    match b with
    | 0 => show Layout.meshLin [2, 2, 2] c.val [1] * 512 + i.val = 512 * yN c + i.val; rw [lin1, Nat.mul_comm]
  w1 c e k h := by
    show V m c main_arg2 _ = _
    rw [V_main_arg2, h1 c, Layout.blockN_apply]
    refine congrArg W1 ?_
    funext b
    apply Fin.ext
    match b with
    | 0 => show Layout.meshLin [2, 2, 2] c.val [1] * 2 + e.val = 2 * yN c + e.val; rw [lin1, Nat.mul_comm]
    | 1 => show 0 * 512 + k.val = k.val; omega
    | 2 => show 0 * 1024 + h.val = h.val; omega
  w2 c e h l := by
    show V m c main_arg3 _ = _
    rw [V_main_arg3, h2 c, Layout.blockN_apply]
    refine congrArg W2 ?_
    funext b
    apply Fin.ext
    match b with
    | 0 => show Layout.meshLin [2, 2, 2] c.val [1] * 2 + e.val = 2 * yN c + e.val; rw [lin1, Nat.mul_comm]
    | 1 => show 0 * 1024 + h.val = h.val; omega
    | 2 => show 0 * 512 + l.val = l.val; omega

/-- A device's result is its block of the reference's. -/
theorem out_block (H : Holds (inp m) X A W1 W2) (c : Dev nD) :
    outF c (inp m) = Layout.blockN ⟨2, ![512, 512]⟩ ⟨2, ![1024, 512]⟩ (Layout.meshBlock [2, 2, 2] ![[1], []] c)
      (Cert.ReferenceIdeal.Read.val_main_v53 (F := Ideal) X A W1 W2) := by
  funext j
  obtain ⟨i, l, rfl⟩ : ∃ i l : Fin 512, j = ix2 i l := ⟨j 0, j 1, eq_ix2 j⟩
  rw [outF_apply H, Layout.blockN_apply, ← Cert.ReferenceIdeal.RefValue.ref_apply]
  refine congrArg (Cert.ReferenceIdeal.Read.val_main_v53 (F := Ideal) X A W1 W2) ?_
  funext b
  apply Fin.ext
  match b with
  | 0 => show 512 * yN c + i.val = Layout.meshLin [2, 2, 2] c.val [1] * 512 + i.val; rw [lin1, Nat.mul_comm]
  | 1 => show l.val = 0 * 512 + l.val; omega

end Blocks

theorem algebraic : Cert.algebraic_KernelIdeal_ReferenceIdeal := by
  intro m ρ m' ρ' _ hagree
  have H := holds m _ _ _ _ (fun c => (hagree c).1) (fun c => (hagree c).2.1) (fun c => (hagree c).2.2.1) (fun c => (hagree c).2.2.2)
  refine ⟨_, (θ_run Cert.KernelIdeal.defs _ _).mono
      (fun _ h c => ⟨((h.1 c).2.2.2.2).trans (out_block m _ _ _ _ H c), (h.1 c).1, (h.1 c).2.1, (h.1 c).2.2.1, (h.1 c).2.2.2.1⟩)
      (Cert.KernelIdeal.Moe.run_main (F := Ideal) m ρ),
    (θ_run Cert.ReferenceIdeal.defs _ _).mono (fun _ h => ⟨(h 0).1.trans ?_, (h 0).2⟩)
      (Cert.ReferenceIdeal.Value.run (F := Ideal) m' ρ')⟩
  exact Cert.ReferenceIdeal.Read.val_main_v53_eq _ _ _ _

end Cert.Moe.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Moe.Claims.frame_p, Cert.Moe.Claims.frame_pi, Cert.Moe.Claims.frame_ri, trivial, Cert.Moe.Claims.algebraic⟩

end Cert.Proof

end
